-- ==== Defs.lean ====
def Pre_Kernel [hPre_groups : Cert.Pre_groups.Facts] (m : (ℓ : Loc Cert.Kernel.nD Cert.Kernel.τ Cert.Kernel.sig) → Buf (Elt Bits) ℓ) : Prop :=
  ∀ c : Dev Cert.Kernel.nD,
    (Cert.Pre_groups.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_groups : Cert.Pre_groups.Facts] (m : (ℓ : Loc Cert.KernelIdeal.nD Cert.KernelIdeal.τ Cert.KernelIdeal.sig) → Buf (Elt Ideal) ℓ) : Prop :=
  ∀ c : Dev Cert.KernelIdeal.nD,
    (Cert.Pre_groups.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups [hPre_groups : Cert.Pre_groups.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_groups : Cert.Pre_groups.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_groups : Cert.Pre_groups.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_groups [hReferenceIdeal : Cert.ReferenceIdeal.Facts] [hPre_groups : Cert.Pre_groups.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_groups : Cert.Pre_groups.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v69_0)) (v1 : (c : Dev Cert.KernelIdeal.nD) → Buf (Elt Ideal) ((c.tc : Thread Cert.KernelIdeal.nD Cert.KernelIdeal.τ).loc Cert.KernelIdeal.main_v69_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69_0) = v0 c
          ∧ r.2.mem ((c.tc : Thread Cert.KernelIdeal.nD Cert.KernelIdeal.τ).loc Cert.KernelIdeal.main_v69_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10_0) = v0 c
          ∧ r.2.mem ((c.tc : Thread Cert.ReferenceIdeal.nD Cert.ReferenceIdeal.τ).loc Cert.ReferenceIdeal.main_v10_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_groups : Cert.Pre_groups.Facts),
    quiescent_Kernel (hKernel := hKernel) (hPre_groups := hPre_groups)
    ∧ quiescent_KernelIdeal (hKernelIdeal := hKernelIdeal) (hPre_groups := hPre_groups)
    ∧ quiescent_ReferenceIdeal (hReferenceIdeal := hReferenceIdeal)
    ∧ quiescent_ReferenceIdeal_pre_groups (hReferenceIdeal := hReferenceIdeal) (hPre_groups := hPre_groups)
    ∧ preserves_Kernel_KernelIdeal
    ∧ algebraic_KernelIdeal_ReferenceIdeal (hKernelIdeal := hKernelIdeal) (hReferenceIdeal := hReferenceIdeal) (hPre_groups := hPre_groups)
-- ==== Pre_groups.lean ====
abbrev S65536x2816 : Shape := ⟨2, ![65536, 2816]⟩
abbrev S32 : Shape := ⟨1, ![32]⟩
abbrev S32x2816x5632 : Shape := ⟨3, ![32, 2816, 5632]⟩
abbrev S32x5632 : Shape := ⟨2, ![32, 5632]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : FVec F S65536x2816 .bf16) (main_arg1 : IVec S32 32) (main_arg2 : FVec F S32x2816x5632 .fp8e4m3) (main_arg3 : FVec F S32x5632 .f32) : IVec S_ 1 :=
  let main_c : IVec S_ 32 := constantI S_ 32 0#32
  let main_v0 : IVec S32 32 := broadcastInDim S32 ![] bcast_S_S32 main_c
  let main_v1 : IVec S32 1 := cmpi .sge main_arg1 main_v0
  let main_c_0 : IVec S_ 32 := constantI S_ 32 65536#32
  let main_v2 : IVec S32 32 := broadcastInDim S32 ![] bcast_S_S32 main_c_0
  let main_v3 : IVec S32 1 := cmpi .sle main_arg1 main_v2
  let main_v4 : IVec S32 1 := andi main_v1 main_v3
  let main_c_1 : IVec S_ 1 := constantI S_ 1 1#1
  let main_v5 : IVec S_ 1 := (fun x v => Host.reduce IntOp.andi x v reducesTo_S32_S_d0 h_S_) main_v4 main_c_1
  let main_c_2 : IVec S_ 32 := constantI S_ 32 0#32
  let main_v6 : IVec S_ 32 := (fun x v => Host.reduce IntOp.addi x v reducesTo_S32_S_d0 h_S_) main_arg1 main_c_2
  let main_c_3 : IVec S_ 32 := constantI S_ 32 65536#32
  let main_v7 : IVec S_ 1 := cmpi .eq main_v6 main_c_3
  let main_v8 : IVec S_ 1 := andi main_v5 main_v7
  main_v8
-- ==== Kernel.lean ====
abbrev S65536x2816 : Shape := ⟨2, ![65536, 2816]⟩
abbrev S32 : Shape := ⟨1, ![32]⟩
abbrev S32x2816x5632 : Shape := ⟨3, ![32, 2816, 5632]⟩
abbrev S32x5632 : Shape := ⟨2, ![32, 5632]⟩
abbrev S_ : Shape := ⟨0, ![]⟩
abbrev S288 : Shape := ⟨1, ![288]⟩
abbrev S1 : Shape := ⟨1, ![1]⟩
abbrev S288x1 : Shape := ⟨2, ![288, 1]⟩
abbrev S1x32 : Shape := ⟨2, ![1, 32]⟩
abbrev S288x32 : Shape := ⟨2, ![288, 32]⟩
abbrev S32x1x5632 : Shape := ⟨3, ![32, 1, 5632]⟩
abbrev S65536x1 : Shape := ⟨2, ![65536, 1]⟩
abbrev S256x2816 : Shape := ⟨2, ![256, 2816]⟩
abbrev S1x2816x5632 : Shape := ⟨3, ![1, 2816, 5632]⟩
abbrev S1x1x5632 : Shape := ⟨3, ![1, 1, 5632]⟩
abbrev S256x1 : Shape := ⟨2, ![256, 1]⟩
abbrev S256x128 : Shape := ⟨2, ![256, 128]⟩
abbrev S32x2816 : Shape := ⟨2, ![32, 2816]⟩
abbrev S32x1 : Shape := ⟨2, ![32, 1]⟩
abbrev S32x256 : Shape := ⟨2, ![32, 256]⟩
abbrev S32x128 : Shape := ⟨2, ![32, 128]⟩
abbrev S1x2816x256 : Shape := ⟨3, ![1, 2816, 256]⟩
abbrev S2816x256 : Shape := ⟨2, ![2816, 256]⟩
abbrev S256x256 : Shape := ⟨2, ![256, 256]⟩
abbrev S1x1x256 : Shape := ⟨3, ![1, 1, 256]⟩
abbrev S1x256 : Shape := ⟨2, ![1, 256]⟩

abbrev nBuf : Space → Nat
  | .hbm => 144
  | .vmem => 13
  | .smem => 4
  | _ => 0

abbrev hbmTy0_0 (i : Nat) : BufTy := match i % 128 with
  | 0 => ⟨S65536x2816, .bf16⟩
  | 1 => ⟨S32, .i32⟩
  | 2 => ⟨S32x2816x5632, .fp8e4m3⟩
  | 3 => ⟨S32x5632, .f32⟩
  | 4 => ⟨S_, .i32⟩
  | 5 => ⟨S_, .i32⟩
  | 6 => ⟨S32, .i32⟩
  | 7 => ⟨S32, .i32⟩
  | 8 => ⟨S_, .i32⟩
  | 9 => ⟨S_, .i32⟩
  | 10 => ⟨S32, .i32⟩
  | 11 => ⟨S32, .i32⟩
  | 12 => ⟨S32, .i32⟩
  | 13 => ⟨S_, .i32⟩
  | 14 => ⟨S32, .i32⟩
  | 15 => ⟨S32, .i1⟩
  | 16 => ⟨S32, .i32⟩
  | 17 => ⟨S32, .i32⟩
  | 18 => ⟨S_, .i32⟩
  | 19 => ⟨S32, .i32⟩
  | 20 => ⟨S32, .i1⟩
  | 21 => ⟨S32, .i1⟩
  | 22 => ⟨S_, .i32⟩
  | 23 => ⟨S32, .i32⟩
  | 24 => ⟨S32, .i32⟩
  | 25 => ⟨S32, .i32⟩
  | 26 => ⟨S_, .i32⟩
  | 27 => ⟨S32, .i32⟩
  | 28 => ⟨S32, .i1⟩
  | 29 => ⟨S_, .i32⟩
  | 30 => ⟨S32, .i32⟩
  | 31 => ⟨S32, .i32⟩
  | 32 => ⟨S_, .i32⟩
  | 33 => ⟨S32, .i32⟩
  | 34 => ⟨S32, .i32⟩
  | 35 => ⟨S_, .i32⟩
  | 36 => ⟨S_, .i32⟩
  | 37 => ⟨S32, .i32⟩
  | 38 => ⟨S32, .i32⟩
  | 39 => ⟨S32, .i32⟩
  | 40 => ⟨S_, .i32⟩
  | 41 => ⟨S32, .i32⟩
  | 42 => ⟨S32, .i1⟩
  | 43 => ⟨S32, .i32⟩
  | 44 => ⟨S32, .i32⟩
  | 45 => ⟨S_, .i32⟩
  | 46 => ⟨S32, .i32⟩
  | 47 => ⟨S32, .i1⟩
  | 48 => ⟨S32, .i1⟩
  | 49 => ⟨S_, .i32⟩
  | 50 => ⟨S32, .i32⟩
  | 51 => ⟨S32, .i32⟩
  | 52 => ⟨S32, .i32⟩
  | 53 => ⟨S32, .i32⟩
  | 54 => ⟨S_, .i32⟩
  | 55 => ⟨S_, .i32⟩
  | 56 => ⟨S32, .i32⟩
  | 57 => ⟨S32, .i32⟩
  | 58 => ⟨S_, .i32⟩
  | 59 => ⟨S_, .i32⟩
  | 60 => ⟨S32, .i32⟩
  | 61 => ⟨S288, .i32⟩
  | 62 => ⟨S1, .i32⟩
  | 63 => ⟨S_, .i32⟩
  | 64 => ⟨S288, .i32⟩
  | 65 => ⟨S288, .i1⟩
  | 66 => ⟨S_, .i32⟩
  | 67 => ⟨S_, .i32⟩
  | 68 => ⟨S288, .i32⟩
  | 69 => ⟨S288, .i32⟩
  | 70 => ⟨S288x1, .i32⟩
  | 71 => ⟨S1x32, .i32⟩
  | 72 => ⟨S288x32, .i32⟩
  | 73 => ⟨S288x32, .i32⟩
  | 74 => ⟨S288x32, .i1⟩
  | 75 => ⟨S288x32, .i32⟩
  | 76 => ⟨S_, .i32⟩
  | 77 => ⟨S_, .i32⟩
  | 78 => ⟨S288, .i32⟩
  | 79 => ⟨S288, .i1⟩
  | 80 => ⟨S_, .i32⟩
  | 81 => ⟨S288, .i32⟩
  | 82 => ⟨S288, .i32⟩
  | 83 => ⟨S288, .i32⟩
  | 84 => ⟨S288x1, .i32⟩
  | 85 => ⟨S288, .i32⟩
  | 86 => ⟨S288, .i32⟩
  | 87 => ⟨S32, .i32⟩
  | 88 => ⟨S_, .i32⟩
  | 89 => ⟨S288, .i32⟩
  | 90 => ⟨S288, .i1⟩
  | 91 => ⟨S_, .i32⟩
  | 92 => ⟨S288, .i32⟩
  | 93 => ⟨S288, .i32⟩
  | 94 => ⟨S288, .i32⟩
  | 95 => ⟨S288x1, .i32⟩
  | 96 => ⟨S288, .i32⟩
  | 97 => ⟨S_, .i32⟩
  | 98 => ⟨S288, .i32⟩
  | 99 => ⟨S288, .i1⟩
  | 100 => ⟨S_, .i32⟩
  | 101 => ⟨S288, .i32⟩
  | 102 => ⟨S288, .i32⟩
  | 103 => ⟨S288, .i32⟩
  | 104 => ⟨S288x1, .i32⟩
  | 105 => ⟨S288, .i32⟩
  | 106 => ⟨S_, .i32⟩
  | 107 => ⟨S288, .i32⟩
  | 108 => ⟨S288, .i32⟩
  | 109 => ⟨S288, .i32⟩
  | 110 => ⟨S_, .i32⟩
  | 111 => ⟨S_, .i32⟩
  | 112 => ⟨S_, .i32⟩
  | 113 => ⟨S288, .i32⟩
  | 114 => ⟨S288, .i32⟩
  | 115 => ⟨S_, .i32⟩
  | 116 => ⟨S288, .i32⟩
  | 117 => ⟨S_, .i32⟩
  | 118 => ⟨S288, .i32⟩
  | 119 => ⟨S288, .i1⟩
  | 120 => ⟨S_, .i32⟩
  | 121 => ⟨S288, .i32⟩
  | 122 => ⟨S288, .i32⟩
  | 123 => ⟨S288, .i32⟩
  | 124 => ⟨S288x1, .i32⟩
  | 125 => ⟨S288, .i32⟩
  | 126 => ⟨S_, .i32⟩
  | 127 => ⟨S288, .i32⟩
  | _ => ⟨S65536x2816, .bf16⟩

abbrev hbmTy0_1 (i : Nat) : BufTy := match i % 128 with
  | 0 => ⟨S288, .i32⟩
  | 1 => ⟨S288, .i32⟩
  | 2 => ⟨S_, .i32⟩
  | 3 => ⟨S_, .i32⟩
  | 4 => ⟨S_, .i32⟩
  | 5 => ⟨S288, .i32⟩
  | 6 => ⟨S288, .i32⟩
  | 7 => ⟨S_, .i32⟩
  | 8 => ⟨S288, .i32⟩
  | 9 => ⟨S288, .i32⟩
  | 10 => ⟨S_, .i32⟩
  | 11 => ⟨S_, .i32⟩
  | 12 => ⟨S288, .i32⟩
  | 13 => ⟨S32x1x5632, .f32⟩
  | 14 => ⟨S65536x2816, .fp8e4m3⟩
  | 15 => ⟨S65536x1, .f32⟩
  | _ => ⟨S65536x2816, .bf16⟩

abbrev hbmTy (i : Nat) : BufTy := match i / 128 with
  | 0 => hbmTy0_0 i
  | 1 => hbmTy0_1 i
  | _ => ⟨S65536x2816, .bf16⟩

abbrev bufTy : (tb : Table) → Fin (tcTables nBuf tb) → BufTy
  | .hbm, ⟨i, _⟩ => hbmTy i
  | .local _ .vmem, ⟨0, _⟩ => ⟨S256x2816, .bf16⟩
  | .local _ .vmem, ⟨1, _⟩ => ⟨S256x2816, .bf16⟩
  | .local _ .vmem, ⟨2, _⟩ => ⟨S1x2816x5632, .fp8e4m3⟩
  | .local _ .vmem, ⟨3, _⟩ => ⟨S1x2816x5632, .fp8e4m3⟩
  | .local _ .vmem, ⟨4, _⟩ => ⟨S1x1x5632, .f32⟩
  | .local _ .vmem, ⟨5, _⟩ => ⟨S1x1x5632, .f32⟩
  | .local _ .vmem, ⟨6, _⟩ => ⟨S256x2816, .fp8e4m3⟩
  | .local _ .vmem, ⟨7, _⟩ => ⟨S256x2816, .fp8e4m3⟩
  | .local _ .vmem, ⟨8, _⟩ => ⟨S256x1, .f32⟩
  | .local _ .vmem, ⟨9, _⟩ => ⟨S256x1, .f32⟩
  | .local _ .vmem, ⟨10, _⟩ => ⟨S256x2816, .fp8e4m3⟩
  | .local _ .vmem, ⟨11, _⟩ => ⟨S256x128, .f32⟩
  | .local _ .vmem, ⟨12, _⟩ => ⟨S256x2816, .f32⟩
  | .local _ .smem, ⟨0, _⟩ => ⟨S288, .i32⟩
  | .local _ .smem, ⟨1, _⟩ => ⟨S288, .i32⟩
  | .local _ .smem, ⟨2, _⟩ => ⟨S288, .i32⟩
  | .local _ .smem, ⟨3, _⟩ => ⟨S288, .i32⟩
  | _, _ => ⟨S65536x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_v6 : Ref sig .tc := ⟨.hbm, 15, rfl⟩
abbrev main_call1_v7 : Ref sig .tc := ⟨.hbm, 16, rfl⟩
abbrev main_call1_v8 : Ref sig .tc := ⟨.hbm, 17, rfl⟩
abbrev main_call1_c : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_0 : Ref sig .tc := ⟨.hbm, 22, rfl⟩
abbrev main_call1_v12 : Ref sig .tc := ⟨.hbm, 23, rfl⟩
abbrev main_call1_v13 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_c_2 : Ref sig .tc := ⟨.hbm, 32, rfl⟩
abbrev main_v7 : Ref sig .tc := ⟨.hbm, 33, rfl⟩
abbrev main_v8 : Ref sig .tc := ⟨.hbm, 34, rfl⟩
abbrev main_c_3 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_c : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_0 : Ref sig .tc := ⟨.hbm, 49, rfl⟩
abbrev main_call2_v12 : Ref sig .tc := ⟨.hbm, 50, rfl⟩
abbrev main_call2_v13 : Ref sig .tc := ⟨.hbm, 51, rfl⟩
abbrev main_v9 : Ref sig .tc := ⟨.hbm, 52, rfl⟩
abbrev main_v10 : Ref sig .tc := ⟨.hbm, 53, rfl⟩
abbrev main_c_4 : Ref sig .tc := ⟨.hbm, 54, rfl⟩
abbrev main_call3_v0 : Ref sig .tc := ⟨.hbm, 55, rfl⟩
abbrev main_call3_v1 : Ref sig .tc := ⟨.hbm, 56, rfl⟩
abbrev main_v11 : Ref sig .tc := ⟨.hbm, 57, rfl⟩
abbrev main_call4_call0_c : Ref sig .tc := ⟨.hbm, 58, rfl⟩
abbrev main_call4_call0_v0 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_c_5 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_c_6 : Ref sig .tc := ⟨.hbm, 76, rfl⟩
abbrev main_c_7 : Ref sig .tc := ⟨.hbm, 77, rfl⟩
abbrev main_v28 : Ref sig .tc := ⟨.hbm, 78, rfl⟩
abbrev main_v29 : Ref sig .tc := ⟨.hbm, 79, rfl⟩
abbrev main_c_8 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_c_9 : Ref sig .tc := ⟨.hbm, 88, rfl⟩
abbrev main_v37 : Ref sig .tc := ⟨.hbm, 89, rfl⟩
abbrev main_v38 : Ref sig .tc := ⟨.hbm, 90, rfl⟩
abbrev main_c_10 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_c_11 : Ref sig .tc := ⟨.hbm, 97, rfl⟩
abbrev main_v45 : Ref sig .tc := ⟨.hbm, 98, rfl⟩
abbrev main_v46 : Ref sig .tc := ⟨.hbm, 99, rfl⟩
abbrev main_c_12 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_c_13 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_c_14 : Ref sig .tc := ⟨.hbm, 110, rfl⟩
abbrev main_c_15 : Ref sig .tc := ⟨.hbm, 111, rfl⟩
abbrev main_call5_v0 : Ref sig .tc := ⟨.hbm, 112, rfl⟩
abbrev main_call5_v1 : Ref sig .tc := ⟨.hbm, 113, rfl⟩
abbrev main_call5_v2 : Ref sig .tc := ⟨.hbm, 114, rfl⟩
abbrev main_call5_v3 : Ref sig .tc := ⟨.hbm, 115, rfl⟩
abbrev main_call5_v4 : Ref sig .tc := ⟨.hbm, 116, rfl⟩
abbrev main_c_16 : Ref sig .tc := ⟨.hbm, 117, rfl⟩
abbrev main_v56 : Ref sig .tc := ⟨.hbm, 118, rfl⟩
abbrev main_v57 : Ref sig .tc := ⟨.hbm, 119, rfl⟩
abbrev main_c_17 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_c_18 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_c_19 : Ref sig .tc := ⟨.hbm, 130, rfl⟩
abbrev main_c_20 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_call6_v3 : Ref sig .tc := ⟨.hbm, 135, rfl⟩
abbrev main_call6_v4 : Ref sig .tc := ⟨.hbm, 136, rfl⟩
abbrev main_v66 : Ref sig .tc := ⟨.hbm, 137, rfl⟩
abbrev main_c_21 : Ref sig .tc := ⟨.hbm, 138, rfl⟩
abbrev main_call7_v0 : Ref sig .tc := ⟨.hbm, 139, rfl⟩
abbrev main_call7_v1 : Ref sig .tc := ⟨.hbm, 140, rfl⟩
abbrev main_v68 : Ref sig .tc := ⟨.hbm, 141, rfl⟩
abbrev main_v69_0 : Ref sig .tc := ⟨.hbm, 142, rfl⟩
abbrev main_v69_1 : Ref sig .tc := ⟨.hbm, 143, rfl⟩
abbrev main_v44 : Ref sig .tc := ⟨.smem, 0, rfl⟩
abbrev main_v27 : Ref sig .tc := ⟨.smem, 1, rfl⟩
abbrev main_v55 : Ref sig .tc := ⟨.smem, 2, rfl⟩
abbrev main_v67 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![288], ![false]⟩

abbrev pre0 : Pipeline.Prefetch sig := ⟨4, ![main_v44.idx, main_v27.idx, main_v55.idx, main_v67.idx], fun | 0 => main_v44.names | 1 => main_v27.names | 2 => main_v55.names | 3 => main_v67.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
@[reducible] def k0_t1_loop : Scf.Loop 32 :=
  let c0_i32_2 : BitVec 32 := 0#32
  let c8_i32 : BitVec 32 := 8#32
  let v16 : BitVec 32 := Scalar.addi c0_i32_2 c8_i32
  let c1_i32_3 : BitVec 32 := 1#32
  ⟨c0_i32_2, v16, c1_i32_3⟩
def k0_off3 (k0_t1 : Fin k0_t1_loop.trips) : Fin 2 → Nat :=
  let c0_i32_2 : BitVec 32 := 0#32
  let c1_i32_3 : BitVec 32 := 1#32
  let arg13 : BitVec 32 := Scf.iv c0_i32_2 c1_i32_3 k0_t1
  let c32_i32 : BitVec 32 := 32#32
  let v350 : BitVec 32 := Scalar.muli arg13 c32_i32
  let v351 : Index := Scalar.indexCast v350
  let c0_199 : Index := 0#32
  ![v351.toNat, 0]
def k0_off4 (k0_t1 : Fin k0_t1_loop.trips) : Fin 2 → Nat :=
  let c0_i32_2 : BitVec 32 := 0#32
  let c1_i32_3 : BitVec 32 := 1#32
  let arg13 : BitVec 32 := Scf.iv c0_i32_2 c1_i32_3 k0_t1
  let c32_i32 : BitVec 32 := 32#32
  let v350 : BitVec 32 := Scalar.muli arg13 c32_i32
  let v405 : Index := Scalar.indexCast v350
  let c0_213 : Index := 0#32
  ![v405.toNat, 0]
@[reducible] def k0_t2_loop : Scf.Loop 32 :=
  let c0_i32_195 : BitVec 32 := 0#32
  let c8_i32_196 : BitVec 32 := 8#32
  let v349 : BitVec 32 := Scalar.addi c0_i32_195 c8_i32_196
  let c1_i32_197 : BitVec 32 := 1#32
  ⟨c0_i32_195, v349, c1_i32_197⟩
def k0_off5 (k0_t2 : Fin k0_t2_loop.trips) : Fin 2 → Nat :=
  let c0_i32_195 : BitVec 32 := 0#32
  let c1_i32_197 : BitVec 32 := 1#32
  let arg13 : BitVec 32 := Scf.iv c0_i32_195 c1_i32_197 k0_t2
  let c32_i32 : BitVec 32 := 32#32
  let v350 : BitVec 32 := Scalar.muli arg13 c32_i32
  let v351 : Index := Scalar.indexCast v350
  let c0_199 : Index := 0#32
  ![v351.toNat, 0]
def k0_off6 (k0_t2 : Fin k0_t2_loop.trips) : Fin 2 → Nat :=
  let c0_i32_195 : BitVec 32 := 0#32
  let c1_i32_197 : BitVec 32 := 1#32
  let arg13 : BitVec 32 := Scf.iv c0_i32_195 c1_i32_197 k0_t2
  let c32_i32 : BitVec 32 := 32#32
  let v350 : BitVec 32 := Scalar.muli arg13 c32_i32
  let v417 : Index := Scalar.indexCast v350
  let c0_215 : Index := 0#32
  ![v417.toNat, 0]
def k0_cond1 (v1 : BitVec 32) (v3 : BitVec 32) : BitVec 1 :=
  let v13 : BitVec 1 := Scalar.cmpi .sgt v3 v1
  let v14 : BitVec 32 := Scalar.extui v13
  let c0_i32_1 : BitVec 32 := 0#32
  let v15 : BitVec 1 := Scalar.cmpi .ne v14 c0_i32_1
  v15

def cc0_transform_0 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat]

def cc0_transform_4 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2816x5632 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S65536x2816 : Shape := ⟨2, ![65536, 2816]⟩
abbrev S32 : Shape := ⟨1, ![32]⟩
abbrev S32x2816x5632 : Shape := ⟨3, ![32, 2816, 5632]⟩
abbrev S32x5632 : Shape := ⟨2, ![32, 5632]⟩
abbrev S_ : Shape := ⟨0, ![]⟩
abbrev S65536 : Shape := ⟨1, ![65536]⟩
abbrev S65536x1 : Shape := ⟨2, ![65536, 1]⟩
abbrev S1x32 : Shape := ⟨2, ![1, 32]⟩
abbrev S65536x32 : Shape := ⟨2, ![65536, 32]⟩
abbrev S1x256 : Shape := ⟨2, ![1, 256]⟩
abbrev S65536x256 : Shape := ⟨2, ![65536, 256]⟩
abbrev S65536x5632 : Shape := ⟨2, ![65536, 5632]⟩
abbrev S1x2816x5632 : Shape := ⟨3, ![1, 2816, 5632]⟩
abbrev S2816x5632 : Shape := ⟨2, ![2816, 5632]⟩
abbrev S1x5632 : Shape := ⟨2, ![1, 5632]⟩

abbrev nBuf : Space → Nat
  | .hbm => 19
  | .vmem => 6
  | .smem => 0
  | _ => 0

abbrev bufTy : (tb : Table) → Fin (tcTables nBuf tb) → BufTy
  | .hbm, ⟨0, _⟩ => ⟨S65536x2816, .bf16⟩
  | .hbm, ⟨1, _⟩ => ⟨S32, .i32⟩
  | .hbm, ⟨2, _⟩ => ⟨S32x2816x5632, .fp8e4m3⟩
  | .hbm, ⟨3, _⟩ => ⟨S32x5632, .f32⟩
  | .hbm, ⟨4, _⟩ => ⟨S_, .i32⟩
  | .hbm, ⟨5, _⟩ => ⟨S_, .i32⟩
  | .hbm, ⟨6, _⟩ => ⟨S32, .i32⟩
  | .hbm, ⟨7, _⟩ => ⟨S65536, .i32⟩
  | .hbm, ⟨8, _⟩ => ⟨S65536x1, .i32⟩
  | .hbm, ⟨9, _⟩ => ⟨S1x32, .i32⟩
  | .hbm, ⟨10, _⟩ => ⟨S65536x32, .i32⟩
  | .hbm, ⟨11, _⟩ => ⟨S65536x32, .i32⟩
  | .hbm, ⟨12, _⟩ => ⟨S65536x32, .i1⟩
  | .hbm, ⟨13, _⟩ => ⟨S65536x32, .i32⟩
  | .hbm, ⟨14, _⟩ => ⟨S_, .i32⟩
  | .hbm, ⟨15, _⟩ => ⟨S65536, .i32⟩
  | .hbm, ⟨16, _⟩ => ⟨S65536x1, .i32⟩
  | .hbm, ⟨17, _⟩ => ⟨S65536x2816, .fp8e4m3⟩
  | .hbm, ⟨18, _⟩ => ⟨S65536x1, .f32⟩
  | .local _ .vmem, ⟨0, _⟩ => ⟨S65536x1, .i32⟩
  | .local _ .vmem, ⟨1, _⟩ => ⟨S65536x2816, .bf16⟩
  | .local _ .vmem, ⟨2, _⟩ => ⟨S32x2816x5632, .fp8e4m3⟩
  | .local _ .vmem, ⟨3, _⟩ => ⟨S32x5632, .f32⟩
  | .local _ .vmem, ⟨4, _⟩ => ⟨S65536x2816, .fp8e4m3⟩
  | .local _ .vmem, ⟨5, _⟩ => ⟨S65536x1, .f32⟩
  | _, _ => ⟨S65536x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S65536x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S65536x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x2816x5632 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S65536x2816 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S65536x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Run.lean ====
/-
  One grid point of the kernel, run: the body at a point whose item has rows to work on (`runLive`), and at one that has none
  (`runIdle`). `runLive` finds, for each buffer the body writes, the list of pieces it leaves there, as functions of what it reads.
-/
module

public import proofs.«01_k».proof.Proof.Gen.Kernel.Launch
public import proofs.«01_k».proof.Proof.Gen.Kernel.Skeleton
public import proofs.«01_k».proof.Proof.Gen.Kernel.Loops
public import Idealize.ShloMosaic.Lib.Pipeline.Frame
public import Idealize.ShloMosaic.Lib.Tactic

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The four prefetched tables as the body is handed them: tile, expert, first row, last row. -/
abbrev tb0 : Memref sig .tc .smem S288 .i32 := Memref.whole main_v44
abbrev tb1 : Memref sig .tc .smem S288 .i32 := Memref.whole main_v27
abbrev tb2 : Memref sig .tc .smem S288 .i32 := Memref.whole main_v55
abbrev tb3 : Memref sig .tc .smem S288 .i32 := Memref.whole main_v67
/-- The scratch buffers: the codes of `x`, its scales, the hidden activations. -/
abbrev sc0 : Memref sig .tc .vmem S256x2816 .fp8e4m3 := Memref.whole cc0_scratch0
abbrev sc1 : Memref sig .tc .vmem S256x128 .f32 := Memref.whole cc0_scratch1
abbrev sc2 : Memref sig .tc .vmem S256x2816 .f32 := Memref.whole cc0_scratch2

/-- A table's contents, and the table held at half the full share. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The word of a table at a point, and at the point before it (the first point's own). -/
abbrev word (c : Dev nD) (M : Memref sig .tc .smem S288 .i32) (i : grid0.Coords) (xt : TbBuf (F := F) c M) : BitVec 32 :=
  M.view.readAt (Elt F) (Rect.unit (s := S288) (k0_off1 i) S1.size (k0_off1_inb i)) xt (Shape.Idx.first (numel1_S1.symm ▸ Nat.one_pos))
abbrev wordBefore (c : Dev nD) (M : Memref sig .tc .smem S288 .i32) (i : grid0.Coords) (xt : TbBuf (F := F) c M) : BitVec 32 :=
  M.view.readAt (Elt F) (Rect.unit (s := S288) (k0_off2 i) S1.size (k0_off2_inb i)) xt (Shape.Idx.first (numel1_S1.symm ▸ Nat.one_pos))

/-- A memref's buffer held whole at raw contents. -/
abbrev raw (c : Dev nD) {S : Shape} {e : EltTy} (M : Memref sig .tc .vmem S e) (f : BufTy.Contents (Elt F) M.view.ty) : sProp 𝕄 :=
  M.view.loc (c : Thread nD τ) ↦[M.view.set]{fullShare} f

/-- A scratch buffer held whole at some contents. -/
abbrev any (c : Dev nD) {S : Shape} {e : EltTy} (M : Memref sig .tc .vmem S e) : sProp 𝕄 := iprop(∃ f, raw (F := F) c M f)

/-- What the body holds: the tables, the three input blocks, the two output buffers and the scratch. -/
abbrev held (c : Dev nD) (xt0 : TbBuf (F := F) c tb0) (xt1 : TbBuf (F := F) c tb1) (xt2 : TbBuf (F := F) c tb2) (xt3 : TbBuf (F := F) c tb3)
    (arg5 : Memref sig .tc .vmem S256x2816 .bf16) (arg6 : Memref sig .tc .vmem S1x2816x5632 .fp8e4m3) (arg7 : Memref sig .tc .vmem S1x1x5632 .f32)
    (arg8 : Memref sig .tc .vmem S256x2816 .fp8e4m3) (arg9 : Memref sig .tc .vmem S256x1 .f32)
    (f5 : BufTy.Contents (Elt F) arg5.view.ty) (f6 : BufTy.Contents (Elt F) arg6.view.ty) (f7 : BufTy.Contents (Elt F) arg7.view.ty)
    (f8 : BufTy.Contents (Elt F) arg8.view.ty) (f9 : BufTy.Contents (Elt F) arg9.view.ty)
    (f10 : BufTy.Contents (Elt F) sc0.view.ty) (f11 : BufTy.Contents (Elt F) sc1.view.ty) (f12 : BufTy.Contents (Elt F) sc2.view.ty) : sProp 𝕄 :=
  iprop(tbPt c tb0 xt0 ∗ tbPt c tb1 xt1 ∗ tbPt c tb2 xt2 ∗ tbPt c tb3 xt3
    ∗ raw c arg5 f5 ∗ raw c arg6 f6 ∗ raw c arg7 f7 ∗ raw c arg8 f8 ∗ raw c arg9 f9 ∗ raw c sc0 f10 ∗ raw c sc1 f11 ∗ raw c sc2 f12)

set_option maxHeartbeats 2000000 in
/-- A point whose item has no rows: the body reads its bounds and leaves every buffer as it was. -/
theorem runIdle (c : Dev nD) (i : grid0.Coords) (xt0 : TbBuf (F := F) c tb0) (xt1 : TbBuf (F := F) c tb1) (xt2 : TbBuf (F := F) c tb2) (xt3 : TbBuf (F := F) c tb3)
    (hc : ¬ k0_cond1 (word c tb2 i xt2) (word c tb3 i xt3) = 1#1)
    (arg5 : Memref sig .tc .vmem S256x2816 .bf16) (harg5 : arg5.IsWhole) (arg6 : Memref sig .tc .vmem S1x2816x5632 .fp8e4m3) (harg6 : arg6.IsWhole)
    (arg7 : Memref sig .tc .vmem S1x1x5632 .f32) (harg7 : arg7.IsWhole) (arg8 : Memref sig .tc .vmem S256x2816 .fp8e4m3) (harg8 : arg8.IsWhole)
    (arg9 : Memref sig .tc .vmem S256x1 .f32) (harg9 : arg9.IsWhole)
    (f5 : BufTy.Contents (Elt F) arg5.view.ty) (f6 : BufTy.Contents (Elt F) arg6.view.ty) (f7 : BufTy.Contents (Elt F) arg7.view.ty)
    (f8 : BufTy.Contents (Elt F) arg8.view.ty) (f9 : BufTy.Contents (Elt F) arg9.view.ty)
    (f10 : BufTy.Contents (Elt F) sc0.view.ty) (f11 : BufTy.Contents (Elt F) sc1.view.ty) (f12 : BufTy.Contents (Elt F) sc2.view.ty)  :
    held c xt0 xt1 xt2 xt3 arg5 arg6 arg7 arg8 arg9 f5 f6 f7 f8 f9 f10 f11 f12
      ⊢ wp frame (wpE (defs₀ (F := F)) Variants.none c none) Set.univ
          (cc0_moe_gate_up i tb0 (Memref.isWhole_whole _) tb1 (Memref.isWhole_whole _) tb2 (Memref.isWhole_whole _) tb3 (Memref.isWhole_whole _)
            arg5 harg5 arg6 harg6 arg7 harg7 arg8 harg8 arg9 harg9 sc0 (Memref.isWhole_whole _) sc1 (Memref.isWhole_whole _) sc2 (Memref.isWhole_whole _))
          (fun _ => held c xt0 xt1 xt2 xt3 arg5 arg6 arg7 arg8 arg9 f5 f6 f7 f8 f9 f10 f11 f12) := by
  iintro ⟨T0, T1, T2, T3, H5, H6, H7, H8, H9, H10, H11, H12⟩
  sl_unfold [cc0_moe_gate_up]
  sl_exec
  sl_step
  sl_close

set_option maxHeartbeats 2000000 in
/-- A point whose item has rows. -/
def runLive (c : Dev nD) (i : grid0.Coords) (xt0 : TbBuf (F := F) c tb0) (xt1 : TbBuf (F := F) c tb1) (xt2 : TbBuf (F := F) c tb2) (xt3 : TbBuf (F := F) c tb3)
    (hc : k0_cond1 (word c tb2 i xt2) (word c tb3 i xt3) = 1#1)
    (arg5 : Memref sig .tc .vmem S256x2816 .bf16) (harg5 : arg5.IsWhole) (arg6 : Memref sig .tc .vmem S1x2816x5632 .fp8e4m3) (harg6 : arg6.IsWhole)
    (arg7 : Memref sig .tc .vmem S1x1x5632 .f32) (harg7 : arg7.IsWhole) (arg8 : Memref sig .tc .vmem S256x2816 .fp8e4m3) (harg8 : arg8.IsWhole)
    (arg9 : Memref sig .tc .vmem S256x1 .f32) (harg9 : arg9.IsWhole)
    (f5 : BufTy.Contents (Elt F) arg5.view.ty) (f6 : BufTy.Contents (Elt F) arg6.view.ty) (f7 : BufTy.Contents (Elt F) arg7.view.ty)
    (f8 : BufTy.Contents (Elt F) arg8.view.ty) (f9 : BufTy.Contents (Elt F) arg9.view.ty)
    (f10 : BufTy.Contents (Elt F) sc0.view.ty) (f11 : BufTy.Contents (Elt F) sc1.view.ty) (f12 : BufTy.Contents (Elt F) sc2.view.ty) :
    Σ' (L8 : List (View.Piece (Elt F) S256x2816 .fp8e4m3)), { L9 : List (View.Piece (Elt F) S256x1 .f32) //
    held c xt0 xt1 xt2 xt3 arg5 arg6 arg7 arg8 arg9 f5 f6 f7 f8 f9 f10 f11 f12
      ⊢ wp frame (wpE (defs₀ (F := F)) Variants.none c none) Set.univ
          (cc0_moe_gate_up i tb0 (Memref.isWhole_whole _) tb1 (Memref.isWhole_whole _) tb2 (Memref.isWhole_whole _) tb3 (Memref.isWhole_whole _)
            arg5 harg5 arg6 harg6 arg7 harg7 arg8 harg8 arg9 harg9 sc0 (Memref.isWhole_whole _) sc1 (Memref.isWhole_whole _) sc2 (Memref.isWhole_whole _))
          (fun _ => iprop(tbPt c tb0 xt0 ∗ tbPt c tb1 xt1 ∗ tbPt c tb2 xt2 ∗ tbPt c tb3 xt3
            ∗ raw c arg5 f5 ∗ raw c arg6 f6 ∗ raw c arg7 f7 ∗ raw c arg8 (arg8.view.writes (Elt F) f8 L8) ∗ raw c arg9 (arg9.view.writes (Elt F) f9 L9)
            ∗ any c sc0 ∗ any c sc1 ∗ any c sc2)) } := by
  refine ⟨?_, ?_, ?run⟩
  case run =>
    iintro ⟨T0, T1, T2, T3, H5, H6, H7, H8, H9, H10, H11, H12⟩
    sl_unfold [cc0_moe_gate_up]
    sl_exec_parts
    sl_step
    isplitl [T0]; · iexact T0
    isplitl [T1]; · iexact T1
    isplitl [T2]; · iexact T2
    isplitl [T3]; · iexact T3
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    iexists _; iexact H12

end Cert.Kernel.Run
-- ==== Proof.Region.lean ====
/-
  The pipelined region of the kernel, run over its 288 grid points, for tables that keep every block inside its array: what is
  left in each staging buffer at a point is a relation `R` to what was found there, and the two obligations on `R` are on one
  point, whose item has rows (`hlive`) or has none (`hidle`).
-/
module

public import proofs.«01_k».proof.Proof.Run

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations before the region, in order. -/
def ops : List (List (HloOp τ sig (Elt F))) :=
  [hostOps0, hostOps0_1, hostOps0_2, hostOps0_3, hostOps0_4, hostOps0_5, hostOps0_6, hostOps0_7, hostOps0_8, hostOps0_9, hostOps0_10,
   hostOps0_11, hostOps0_12, hostOps0_13, hostOps0_14]

/-- What a buffer holds when the region is entered. -/
def V (c : Dev nD) (b : Ref sig .tc) : Buf (Elt F) ((c : Thread nD τ).loc b) := StableHlo.after ops.flatten (fun b => m (c, b)) b

/-- The tables when the region is entered. -/
def tbl : pre0.Contents (Elt F) := fun k => V m 0 (pre0.ref k)

variable (hok : ok0 (tbl m))

/-- The tables as admissible contents. -/
def adm : (p : Fin 1) → (pcfgs (F := F) p).Adm := fun _ => ⟨tbl m, hok⟩

/-- The pipeline at the tables. -/
abbrev cfg : Pipeline.Cfg sig Λ₀ := Pipeline.pin (pcfgs (F := F)) (adm m hok) 0

/-- A family of staging buffers' contents. -/
abbrev Bufs : Type := (w : Fin (cfg m hok).W) → ((cfg m hok).win w).block.Idx → Elt F ((cfg m hok).win w).elt

/-- A relation between what a staging buffer held before and after the body, by window and point. -/
abbrev Rel : Type := (w : Fin (cfg m hok).W) → Fin (cfg m hok).N →
  (Y X : ((cfg m hok).win w).block.Idx → Elt F ((cfg m hok).win w).elt) → Prop

/-- The region's proof data at a relation. -/
def rdat (R : Rel m hok) (c : Dev nD) : RDat τ (Elt F) Unit ℕ (UR sig nD τ) ℕ (cfg m hok) c where
  A w := V m c (Pipeline.arrRef (cfg m hok).spec w)
  after := R
  Φ _ := iprop(Pipeline.ΦA (cfg m hok).spec c ∗ Pipeline.ΦT pre0 (tbl m) c)
  q _ := fullShare
  owed _ := 0

/-- The tables as the invariant holds them. -/
theorem PhiT0_eq (c : Dev nD) : (Pipeline.ΦT pre0 (tbl m) c : sProp 𝕄)
    = iprop(tbPt c tb0 (tbl m 0) ∗ tbPt c tb1 (tbl m 1) ∗ tbPt c tb2 (tbl m 2) ∗ tbPt c tb3 (tbl m 3)) := by
  unfold Pipeline.ΦT Pipeline.prefHeld
  rw [show (Finset.univ : Finset (Fin 4)) = insert 0 (insert 1 (insert 2 {3})) from by decide, bigSep_insert (by decide),
    bigSep_insert (by decide), bigSep_insert (by decide), bigSep_singleton]
  rfl

/-- The scratch buffers as the invariant holds them. -/
theorem PhiA0_eq (c : Dev nD) : (Pipeline.ΦA spec0 c : sProp 𝕄)
    = iprop(iprop(any c sc0 ∗ any c sc1 ∗ any c sc2) ∗ ∃ r, prngReg c r) := by
  unfold Pipeline.ΦA
  rw [scopedRest0_eq]
  simp only [any, raw, Memref.view_whole, View.set_whole]

/-- The current staging buffers. -/
abbrev st0 (t : Fin (cfg m hok).N) := spec0_0.stage ((cfg m hok).slots t 0)
abbrev st1 (t : Fin (cfg m hok).N) := spec0_1.stage ((cfg m hok).slots t 1)
abbrev st2 (t : Fin (cfg m hok).N) := spec0_2.stage ((cfg m hok).slots t 2)
abbrev st3 (t : Fin (cfg m hok).N) := spec0_3.stage ((cfg m hok).slots t 3)
abbrev st4 (t : Fin (cfg m hok).N) := spec0_4.stage ((cfg m hok).slots t 4)

/-- The item of a point has rows. -/
abbrev Live (c : Dev nD) (i : grid0.Coords) : Prop := k0_cond1 (word c tb2 i (tbl m 2)) (word c tb3 i (tbl m 3)) = 1#1

/-- The run of the body at a point whose item has rows. -/
abbrev live (c : Dev nD) (t : Fin (cfg m hok).N) (hc : Live m c (grid0.coords t)) := runLive (F := F) c (grid0.coords t) (tbl m 0) (tbl m 1) (tbl m 2) (tbl m 3) hc
    (st0 m hok t) (hstage0_0 _) (st1 m hok t) (hstage0_1 _) (st2 m hok t) (hstage0_2 _) (st3 m hok t) (hstage0_3 _) (st4 m hok t) (hstage0_4 _)

/-- The relation holds where the item has no rows. -/
def Idle (R : Rel m hok) (c : Dev nD) : Prop := ∀ (t : Fin (cfg m hok).N), ¬ Live m c (grid0.coords t) → ∀ Y : Bufs m hok, (∀ w, (rdat m hok R c).Finds w t (Y w)) → ∀ w, R w t (Y w) (Y w)

/-- The relation holds where the item has rows. -/
def Runs (R : Rel m hok) (c : Dev nD) : Prop := ∀ (t : Fin (cfg m hok).N) (hc : Live m c (grid0.coords t)) (Y : Bufs m hok), (∀ w, (rdat m hok R c).Finds w t (Y w)) →
  ∀ f5 f6 f7 f8 f9 f10 f11 f12, (st0 m hok t).view.read (Elt F) f5 = Y 0 → (st1 m hok t).view.read (Elt F) f6 = Y 1 → (st2 m hok t).view.read (Elt F) f7 = Y 2 →
    (st3 m hok t).view.read (Elt F) f8 = Y 3 → (st4 m hok t).view.read (Elt F) f9 = Y 4 →
    R 0 t (Y 0) (Y 0) ∧ R 1 t (Y 1) (Y 1) ∧ R 2 t (Y 2) (Y 2)
      ∧ R 3 t (Y 3) ((st3 m hok t).view.read (Elt F) ((st3 m hok t).view.writes (Elt F) f8 (live m hok c t hc f5 f6 f7 f8 f9 f10 f11 f12).1))
      ∧ R 4 t (Y 4) ((st4 m hok t).view.read (Elt F) ((st4 m hok t).view.writes (Elt F) f9 (live m hok c t hc f5 f6 f7 f8 f9 f10 f11 f12).2.1))

/-- The body at a point, as the pipeline calls it. -/
abbrev bodyAt (t : Fin (cfg m hok).N) : Prog (TpuEff nD τ sig (Elt F) Λ₀ .tc) PUnit :=
  cc0_moe_gate_up (grid0.coords t) tb0 (Memref.isWhole_whole _) tb1 (Memref.isWhole_whole _) tb2 (Memref.isWhole_whole _) tb3 (Memref.isWhole_whole _)
    (st0 m hok t) (hstage0_0 _) (st1 m hok t) (hstage0_1 _) (st2 m hok t) (hstage0_2 _) (st3 m hok t) (hstage0_3 _) (st4 m hok t) (hstage0_4 _)
    sc0 (Memref.isWhole_whole _) sc1 (Memref.isWhole_whole _) sc2 (Memref.isWhole_whole _)

theorem defs₀_row (t : Fin (cfg m hok).N) : defs₀ (F := F) .tc (cfg m hok).body ((cfg m hok).bodyArgs t ((cfg m hok).slots t)) = bodyAt m hok t := by
  unfold defs₀; rw [Defs.onTc_tc]

/-- The body at a point, opened. -/
theorem sound_body (R : Rel m hok) (c : Dev nD) (hi : Idle m hok R c) (hl : Runs m hok R c) (t : Fin (cfg m hok).N)
    (Y : Bufs m hok) (hY : ∀ w, (rdat m hok R c).Finds w t (Y w)) :
    iprop((rdat m hok R c).Φ t.castSucc ∗ (rdat m hok R c).owesAt () t.castSucc
      ∗ owns (c : Thread nD τ) (st0 m hok t) fullShare (Y 0) ∗ owns (c : Thread nD τ) (st1 m hok t) fullShare (Y 1) ∗ owns (c : Thread nD τ) (st2 m hok t) fullShare (Y 2)
      ∗ owns (c : Thread nD τ) (st3 m hok t) fullShare (Y 3) ∗ owns (c : Thread nD τ) (st4 m hok t) fullShare (Y 4))
    ⊢ wp frame (wpE (defs₀ (F := F)) Variants.none c none) Set.univ (bodyAt m hok t) (fun _ =>
      iprop((rdat m hok R c).Φ t.succ ∗ (rdat m hok R c).owesAt () t.succ
      ∗ (∃ X, ⌜R 0 t (Y 0) X⌝ ∗ owns (c : Thread nD τ) (st0 m hok t) fullShare X)
      ∗ (∃ X, ⌜R 1 t (Y 1) X⌝ ∗ owns (c : Thread nD τ) (st1 m hok t) fullShare X)
      ∗ (∃ X, ⌜R 2 t (Y 2) X⌝ ∗ owns (c : Thread nD τ) (st2 m hok t) fullShare X)
      ∗ (∃ X, ⌜R 3 t (Y 3) X⌝ ∗ owns (c : Thread nD τ) (st3 m hok t) fullShare X)
      ∗ (∃ X, ⌜R 4 t (Y 4) X⌝ ∗ owns (c : Thread nD τ) (st4 m hok t) fullShare X))) := by
  rw [show (rdat m hok R c).Φ t.succ = (rdat m hok R c).Φ t.castSucc from rfl,
    show (rdat m hok R c).owesAt () t.succ = (rdat m hok R c).owesAt () t.castSucc from rfl,
    show (rdat m hok R c).Φ t.castSucc = iprop(Pipeline.ΦA spec0 c ∗ Pipeline.ΦT pre0 (tbl m) c) from rfl, PhiT0_eq, PhiA0_eq]
  unfold owns
  iintro ⟨⟨⟨⟨⟨%f10, H10⟩, ⟨%f11, H11⟩, ⟨%f12, H12⟩⟩, HG⟩, ⟨T0, T1, T2, T3⟩⟩, HO, ⟨%f5, %e5, H5⟩, ⟨%f6, %e6, H6⟩, ⟨%f7, %e7, H7⟩, ⟨%f8, %e8, H8⟩, ⟨%f9, %e9, H9⟩⟩
  by_cases hc : Live m c (grid0.coords t)
  · obtain ⟨r0, r1, r2, r3, r4⟩ := hl t hc Y hY f5 f6 f7 f8 f9 f10 f11 f12 e5 e6 e7 e8 e9
    iapply (wp_wand_r Idealize.ShloMosaic.frame (wpE (defs₀ (F := F)) Variants.none (c : Thread nD τ) none) Set.univ)
    isplitl [T0 T1 T2 T3 H5 H6 H7 H8 H9 H10 H11 H12]
    · iapply (live m hok c t hc f5 f6 f7 f8 f9 f10 f11 f12).2.2
      sl_close
    iintro %_ ⟨T0, T1, T2, T3, H5, H6, H7, H8, H9, H10, H11, H12⟩
    isplitl [T0 T1 T2 T3 H10 H11 H12 HG]
    · isplitl [H10 H11 H12 HG]
      · isplitl [H10 H11 H12]
        · isplitl [H10]; · iexact H10
          isplitl [H11]; · iexact H11
          iexact H12
        iexact HG
      isplitl [T0]; · iexact T0
      isplitl [T1]; · iexact T1
      isplitl [T2]; · iexact T2
      iexact T3
    isplitl [HO]; · iexact HO
    isplitl [H5]
    · iexists (Y 0); isplitr; · ipureintro; exact r0
      iexists f5; isplitr; · ipureintro; exact e5
      iexact H5
    isplitl [H6]
    · iexists (Y 1); isplitr; · ipureintro; exact r1
      iexists f6; isplitr; · ipureintro; exact e6
      iexact H6
    isplitl [H7]
    · iexists (Y 2); isplitr; · ipureintro; exact r2
      iexists f7; isplitr; · ipureintro; exact e7
      iexact H7
    isplitl [H8]
    · iexists _; isplitr; · ipureintro; exact r3
      iexists _; isplitr; · ipureintro; rfl
      iexact H8
    iexists _; isplitr; · ipureintro; exact r4
    iexists _; isplitr; · ipureintro; rfl
    iexact H9
  · have r := hi t hc Y hY
    iapply (wp_wand_r Idealize.ShloMosaic.frame (wpE (defs₀ (F := F)) Variants.none (c : Thread nD τ) none) Set.univ)
    isplitl [T0 T1 T2 T3 H5 H6 H7 H8 H9 H10 H11 H12]
    · iapply (runIdle (F := F) c (grid0.coords t) (tbl m 0) (tbl m 1) (tbl m 2) (tbl m 3) hc
        (st0 m hok t) (hstage0_0 _) (st1 m hok t) (hstage0_1 _) (st2 m hok t) (hstage0_2 _) (st3 m hok t) (hstage0_3 _) (st4 m hok t) (hstage0_4 _) f5 f6 f7 f8 f9 f10 f11 f12)
      sl_close
    iintro %_ ⟨T0, T1, T2, T3, H5, H6, H7, H8, H9, H10, H11, H12⟩
    isplitl [T0 T1 T2 T3 H10 H11 H12 HG]
    · isplitl [H10 H11 H12 HG]
      · isplitl [H10 H11 H12]
        · isplitl [H10]; · iexists _; iexact H10
          isplitl [H11]; · iexists _; iexact H11
          iexists _; iexact H12
        iexact HG
      isplitl [T0]; · iexact T0
      isplitl [T1]; · iexact T1
      isplitl [T2]; · iexact T2
      iexact T3
    isplitl [HO]; · iexact HO
    isplitl [H5]
    · iexists (Y 0); isplitr; · ipureintro; exact r 0
      iexists f5; isplitr; · ipureintro; exact e5
      iexact H5
    isplitl [H6]
    · iexists (Y 1); isplitr; · ipureintro; exact r 1
      iexists f6; isplitr; · ipureintro; exact e6
      iexact H6
    isplitl [H7]
    · iexists (Y 2); isplitr; · ipureintro; exact r 2
      iexists f7; isplitr; · ipureintro; exact e7
      iexact H7
    isplitl [H8]
    · iexists (Y 3); isplitr; · ipureintro; exact r 3
      iexists f8; isplitr; · ipureintro; exact e8
      iexact H8
    iexists (Y 4); isplitr; · ipureintro; exact r 4
    iexists f9; isplitr; · ipureintro; exact e9
    iexact H9

/-- The library's body obligation. -/
theorem body_obligation (R : Rel m hok) (c : Dev nD) (hi : Idle m hok R c) (hl : Runs m hok R c) :
    (rdat m hok R c).BodyObligation (defs₀ (F := F)) Variants.none () Set.univ := fun t Y hY => by
  rw [bigSep_W0, bigSep_W0, defs₀_row]
  exact sound_body m hok R c hi hl t Y hY

theorem ops_sub : (ops : List (List (HloOp τ sig (Elt F)))).Forall fun l => l.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub,
    hostOps0_10_sub, hostOps0_11_sub, hostOps0_12_sub, hostOps0_13_sub, hostOps0_14_sub⟩

theorem ops_fresh : (ops : List (List (HloOp τ sig (Elt F)))).Forall fun l => l.Forall fun op => op.fresh = ∅ := by
  unfold ops
  simp only [List.Forall]
  repeat' constructor

/-- @main up to the region. -/
theorem hmain : Pipeline.HMainP (Ix := Unit) (Name := ℕ) (U := UR sig nD τ) (Lvl := ℕ) (pcfgs (F := F)) 0 defs₀ Variants.none m (main (F := F)) (V m) :=
  Pipeline.hmainP_prefixes (pcfgs (F := F)) 0 defs₀ Variants.none m main ops ops_sub ops_fresh fun c => main_chain c

-- the theorem's implicit arguments are found by unifying its conclusion with the statement, which may have to unfold plain definitions
set_option backward.isDefEq.respectTransparency.types false in
/-- The run of @main: the arrays hold what the write-backs may have left, every other buffer what it held when the region was entered. -/
theorem run_main (R : Rel m hok) (hi : ∀ c, Idle m hok R c) (hl : ∀ c, Runs m hok R c) :
    θ_run defs (onTc (τ := τ) (main (F := F))) (s₀ m ρ)
      (fun r => RDat.FramePost (cfg m hok) (rdat m hok R) (V m) r ∧ r.2.sem = fun _ => 0) :=
  RDat.θ_run_frameP (Q' := _) (pcfgs (F := F)) (adm m hok) (0 : Fin 1) launch0 defs₀ Variants.none (rdat m hok R) m ρ main
    (hbody := fun c => body_obligation m hok R c (hi c) (hl c)) (hshare := fun c w => by unfold RDat.share; split <;> rfl)
    (howed := fun _ _ => rfl) (V := V m) (hmain := hmain m) (hA := fun _ _ => rfl)
    (hpf := fun c k => by rw [Subsingleton.elim c 0]; rfl) (hΦ := fun _ _ => rfl)

end Cert.Kernel.Run
-- ==== Proof.PlanNat.lean ====
/-
  The plan of the work items over the naturals. `c e` is the number of rows of expert `e`; the rows of one expert lie together, in the order of
  the experts, and are cut at the multiples of 256 (tiles). An item is one expert's rows within one tile. Item `i` has a tile, an expert and
  bounds `lo`, `hi` within the tile; items past the last repeat its tile and expert and have `hi = 0`.
-/
module

public import Idealize.ShloMosaic.Lib.Routing.Count

@[expose] public section

namespace Cert.Plan

open Idealize.ShloMosaic.Routing (lt_count_iff)

/-- `f 0 + … + f (n - 1)`. -/
def P (f : ℕ → ℕ) (n : ℕ) : ℕ := ((List.range n).map f).sum

theorem P_zero (f : ℕ → ℕ) : P f 0 = 0 := rfl
theorem P_succ (f : ℕ → ℕ) (n : ℕ) : P f (n + 1) = P f n + f n := by
  unfold P; rw [List.range_succ, List.map_append, List.sum_append]; simp

theorem P_mono (f : ℕ → ℕ) {a b : ℕ} (h : a ≤ b) : P f a ≤ P f b := by
  induction b, h using Nat.le_induction with
  | base => exact Nat.le_refl _
  | succ n _ ih => rw [P_succ]; omega

variable (c : ℕ → ℕ)

/-- The tiles that an expert's rows meet. -/
def nt (e : ℕ) : ℕ := if 0 < c e then (P c (e + 1) + 255) / 256 - P c e / 256 else 0
/-- The number of items. -/
def total : ℕ := P (nt c) 32
/-- The item that a point works on: its own, or the last. -/
def item (i : ℕ) : ℕ := min i (total c - 1)
/-- The expert of a point. -/
def ex (i : ℕ) : ℕ := Nat.count (fun e => P (nt c) (e + 1) ≤ item c i) 32
/-- The tile of a point. -/
def tile (i : ℕ) : ℕ := P c (ex c i) / 256 + item c i - P (nt c) (ex c i)
/-- The bounds of a point's rows within its tile. -/
def lo (i : ℕ) : ℕ := min 256 (P c (ex c i) - tile c i * 256)
def hi (i : ℕ) : ℕ := if i < total c then min 256 (P c (ex c i + 1) - tile c i * 256) else 0

/-- The expert of a row. -/
def exOf (R : ℕ) : ℕ := Nat.count (fun e => P c (e + 1) ≤ R) 32

/-- A count of the leading members of a sequence that does not fall. -/
theorem count_spec (f : ℕ → ℕ) {d : ℕ} (h : d < P f 32) :
    Nat.count (fun e => P f (e + 1) ≤ d) 32 < 32 ∧ P f (Nat.count (fun e => P f (e + 1) ≤ d) 32) ≤ d
      ∧ d < P f (Nat.count (fun e => P f (e + 1) ≤ d) 32 + 1) := by
  have hdown : ∀ a b, a ≤ b → b < 32 → P f (b + 1) ≤ d → P f (a + 1) ≤ d := fun a b hab _ hb => (P_mono f (by omega)).trans hb
  have key : ∀ {r}, r < 32 → (P f (r + 1) ≤ d ↔ r < Nat.count (fun e => P f (e + 1) ≤ d) 32) := fun {r} hr => lt_count_iff (Q := fun e => P f (e + 1) ≤ d) hdown hr
  have hle := Nat.count_le (p := fun e => P f (e + 1) ≤ d) (n := 32)
  have k31 := key (r := 31) (by omega)
  have h31 : ¬ P f (31 + 1) ≤ d := by show ¬ P f 32 ≤ d; omega
  have hlt : Nat.count (fun e => P f (e + 1) ≤ d) 32 < 32 := by
    have : ¬ 31 < Nat.count (fun e => P f (e + 1) ≤ d) 32 := fun h' => h31 (k31.2 h')
    omega
  generalize Nat.count (fun e => P f (e + 1) ≤ d) 32 = x at key hlt
  refine ⟨hlt, ?_, ?_⟩
  · rcases Nat.eq_zero_or_pos x with h0 | h0
    · subst h0; rw [P_zero]; omega
    · have := (key (r := x - 1) (by omega)).2 (by omega)
      rwa [Nat.sub_add_cancel h0] at this
  · by_contra hn
    have := (key (r := x) hlt).1 (by omega)
    omega

/-- The member that a value falls to is the only one. -/
theorem count_unique (f : ℕ → ℕ) {d x : ℕ} (hx : x < 32) (h1 : P f x ≤ d) (h2 : d < P f (x + 1)) :
    Nat.count (fun e => P f (e + 1) ≤ d) 32 = x := by
  obtain ⟨g0, g1, g2⟩ := count_spec f (show d < P f 32 from lt_of_lt_of_le h2 (P_mono f (by omega)))
  generalize Nat.count (fun e => P f (e + 1) ≤ d) 32 = y at g0 g1 g2
  by_contra hne
  rcases Nat.lt_or_gt_of_ne hne with h | h
  · have := P_mono f (show y + 1 ≤ x from h); omega
  · have := P_mono f (show x + 1 ≤ y from h); omega

variable (hs : P c 32 = 65536)

/-- The items of the experts before `e` are no more than the tiles that their rows meet, counted anew for each. -/
theorem nt_sum_le (e : ℕ) : P (nt c) (e + 1) ≤ (P c (e + 1) + 255) / 256 + e := by
  induction e with
  | zero => rw [P_succ, P_zero]; unfold nt; rw [P_zero]; split <;> omega
  | succ e ih =>
    rw [P_succ]
    have := P_succ c (e + 1)
    unfold nt at ih ⊢
    split <;> omega

include hs in
theorem total_le : total c ≤ 287 := by
  have := nt_sum_le c 31
  unfold total
  rw [show (31 + 1) = 32 from rfl, hs] at this
  omega

/-- Where no item lies between, no row does. -/
theorem rows_of_items {a b : ℕ} (h : a ≤ b) (he : P (nt c) a = P (nt c) b) : P c a = P c b := by
  induction b, h using Nat.le_induction with
  | base => rfl
  | succ n hn ih =>
    have h1 := P_mono (nt c) hn
    have h2 := P_succ (nt c) n
    rw [P_succ, ih (by omega)]
    have h3 : nt c n = 0 := by omega
    unfold nt at h3
    have h4 := P_succ c n
    split at h3 <;> omega

theorem total_eq : total c = P (nt c) 32 := rfl

include hs in
theorem total_pos : 0 < total c := by
  by_contra h
  have := rows_of_items c (Nat.zero_le 32) (by rw [P_zero]; have := total_eq c; omega)
  rw [P_zero] at this; omega

include hs in
theorem item_lt (i : ℕ) : item c i < total c := by
  have := total_pos c hs; unfold item; omega

include hs in
/-- The expert of a point: the one whose items the point's item is among. -/
theorem ex_spec (i : ℕ) : ex c i < 32 ∧ P (nt c) (ex c i) ≤ item c i ∧ item c i < P (nt c) (ex c i) + nt c (ex c i) := by
  have := count_spec (nt c) (item_lt c hs i)
  rw [P_succ] at this; exact this

include hs in
/-- What a point's expert and tile are, over the rows. -/
theorem tile_spec (i : ℕ) : 0 < c (ex c i) ∧ P c (ex c i + 1) = P c (ex c i) + c (ex c i) ∧ P c (ex c i + 1) ≤ 65536
    ∧ P (nt c) (ex c i) ≤ item c i ∧ tile c i = P c (ex c i) / 256 + (item c i - P (nt c) (ex c i))
    ∧ tile c i < (P c (ex c i + 1) + 255) / 256 := by
  obtain ⟨h0, h1, h2⟩ := ex_spec c hs i
  have h3 := P_succ c (ex c i)
  have h4 := P_mono c (show ex c i + 1 ≤ 32 from h0)
  have h5 : tile c i = P c (ex c i) / 256 + (item c i - P (nt c) (ex c i)) := by unfold tile; omega
  have h6 : nt c (ex c i) = if 0 < c (ex c i) then (P c (ex c i + 1) + 255) / 256 - P c (ex c i) / 256 else 0 := rfl
  split at h6
  · exact ⟨by assumption, h3, by omega, h1, h5, by omega⟩
  · omega

include hs in
theorem tile_lt (i : ℕ) : tile c i < 256 := by
  have := tile_spec c hs i; omega

include hs in
theorem ex_lt (i : ℕ) : ex c i < 32 := (ex_spec c hs i).1

theorem lo_le (i : ℕ) : lo c i ≤ 256 := Nat.min_le_left _ _
theorem hi_le (i : ℕ) : hi c i ≤ 256 := by unfold hi; split <;> omega

include hs in
/-- A point with an item has a row, and its rows are its expert's. -/
theorem live_spec {i : ℕ} (hi' : i < total c) : lo c i < hi c i ∧ P c (ex c i) ≤ tile c i * 256 + lo c i ∧ tile c i * 256 + hi c i ≤ P c (ex c i + 1)
    ∧ tile c i * 256 + lo c i = max (P c (ex c i)) (tile c i * 256) ∧ tile c i * 256 + hi c i = min (P c (ex c i + 1)) (tile c i * 256 + 256) := by
  have := tile_spec c hs i
  unfold lo hi; rw [if_pos hi']; omega

theorem dead_hi {i : ℕ} (h : ¬ i < total c) : hi c i = 0 := by unfold hi; rw [if_neg h]

include hs in
/-- A point has a row exactly if it has an item. -/
theorem lo_lt_hi_iff (i : ℕ) : lo c i < hi c i ↔ i < total c := by
  constructor
  · intro h; by_contra h'; rw [dead_hi c h'] at h; omega
  · exact fun h => (live_spec c hs h).1

theorem item_live {i : ℕ} (h : i < total c) : item c i = i := by unfold item; omega

/-- A point without an item has the tile of the last item. -/
theorem dead_tile {i : ℕ} (h : ¬ i < total c) : tile c i = tile c (total c - 1) := by
  have : item c i = item c (total c - 1) := by unfold item; omega
  unfold tile ex; rw [this]

include hs in
/-- The first item starts at row 0. -/
theorem first_row : tile c 0 * 256 + lo c 0 = 0 := by
  have hp := total_pos c hs
  obtain ⟨-, -, -, h4, -⟩ := live_spec c hs hp
  obtain ⟨h0, h1, -⟩ := ex_spec c hs 0
  obtain ⟨-, -, -, -, h5, -⟩ := tile_spec c hs 0
  rw [item_live c hp] at h1 h5
  have := rows_of_items c (Nat.zero_le (ex c 0)) (by rw [P_zero]; omega)
  rw [P_zero] at this
  omega

include hs in
/-- The last item ends at the last row. -/
theorem last_row : tile c (total c - 1) * 256 + hi c (total c - 1) = 65536 := by
  have hp := total_pos c hs
  have hl : total c - 1 < total c := by omega
  obtain ⟨-, -, -, -, h4⟩ := live_spec c hs hl
  obtain ⟨h0, h1, h2⟩ := ex_spec c hs (total c - 1)
  obtain ⟨hc, -, -, -, h5, -⟩ := tile_spec c hs (total c - 1)
  rw [item_live c hl] at h1 h2 h5
  have hm := P_mono (nt c) (show ex c (total c - 1) + 1 ≤ 32 from h0)
  have h6 := P_succ (nt c) (ex c (total c - 1))
  have := rows_of_items c (show ex c (total c - 1) + 1 ≤ 32 from h0) (by have := total_eq c; omega)
  rw [hs] at this
  have h7 : nt c (ex c (total c - 1)) = (P c (ex c (total c - 1) + 1) + 255) / 256 - P c (ex c (total c - 1)) / 256 := by unfold nt; rw [if_pos hc]
  have h8 : total c = P (nt c) (ex c (total c - 1) + 1) := by have := total_eq c; omega
  omega

include hs in
/-- An item starts where the one before it ends. -/
theorem next_row {i : ℕ} (h : i + 1 < total c) : tile c (i + 1) * 256 + lo c (i + 1) = tile c i * 256 + hi c i := by
  have hl : i < total c := by omega
  obtain ⟨-, -, -, -, h4⟩ := live_spec c hs hl
  obtain ⟨-, -, -, h4', -⟩ := live_spec c hs h
  obtain ⟨h0, h1, h2⟩ := ex_spec c hs i
  obtain ⟨h0', h1', h2'⟩ := ex_spec c hs (i + 1)
  obtain ⟨hc, -, -, -, h5, -⟩ := tile_spec c hs i
  obtain ⟨hc', -, -, -, h5', h6'⟩ := tile_spec c hs (i + 1)
  rw [item_live c hl] at h1 h2 h5
  rw [item_live c h] at h1' h2' h5'
  have e1 := P_succ (nt c) (ex c i)
  have e2 := P_succ (nt c) (ex c (i + 1))
  have h7 : nt c (ex c i) = (P c (ex c i + 1) + 255) / 256 - P c (ex c i) / 256 := by unfold nt; rw [if_pos hc]
  rcases Nat.lt_trichotomy (ex c i) (ex c (i + 1)) with hlt | heq | hgt
  · have hm := P_mono (nt c) (show ex c i + 1 ≤ ex c (i + 1) from hlt)
    have := rows_of_items c (show ex c i + 1 ≤ ex c (i + 1) from hlt) (by omega)
    have hr := P_succ c (ex c i)
    omega
  · rw [← heq] at h1' h2' h4' h5' h6'
    omega
  · have hm := P_mono (nt c) (show ex c (i + 1) + 1 ≤ ex c i from hgt)
    omega

include hs in
/-- The expert of a point's rows. -/
theorem exOf_row {i r : ℕ} (h : i < total c) (h1 : lo c i ≤ r) (h2 : r < hi c i) : exOf c (tile c i * 256 + r) = ex c i := by
  obtain ⟨-, g1, g2, -, -⟩ := live_spec c hs h
  exact count_unique c (ex_lt c hs i) (by omega) (by omega)

end Cert.Plan
-- ==== Proof.PlanWords.lean ====
/-
  The plan of the work items as the program computes it on 32-bit words: a running sum, a floor division, a count of comparisons, and three
  gathers. Where the counts are words of naturals with sum 65536, each table holds the words of the plan over the naturals.
-/
module

public import proofs.«01_k».proof.Proof.PlanNat
public import Idealize.ShloMosaic.Lib.PlanTiles.Rows
public import Idealize.ShloMosaic.Lib.Routing.OpsSet

@[expose] public section

noncomputable section

namespace Cert.PlanWords

open Idealize.ShloMosaic Idealize.ShloMosaic.ValueIdx Idealize.ShloMosaic.WordCmp
open Idealize.ShloMosaic.Routing (shape0 shape1 shape2 bc0 bcCol bcRows bcCols cast21 reduce_count cumsum1 gather_take1 addi_ap subi_ap muli_ap iota1_ap ofNat32_sub
  slt_ofNat32 pyDiv pyDiv_ap maxsi_zero_left)
open Idealize.ShloMosaic.PlanTiles (minsi_word maxsi_zero_neg)
open Cert.Plan

theorem b32 : shape0.BroadcastsInDim (shape1 32) (![] : Fin 0 → Fin (shape1 32).rank) := by decide
theorem b288 : shape0.BroadcastsInDim (shape1 288) (![] : Fin 0 → Fin (shape1 288).rank) := by decide
theorem b00 : shape0.BroadcastsInDim shape0 (![] : Fin 0 → Fin shape0.rank) := by decide
theorem bcolI : (shape1 288).BroadcastsInDim (shape2 288 1) (![0] : Fin 1 → Fin (shape2 288 1).rank) := by decide
theorem browC : (shape1 32).BroadcastsInDim (shape2 1 32) (![1] : Fin 1 → Fin (shape2 1 32).rank) := by decide
theorem bI : (shape2 288 1).BroadcastsInDim (shape2 288 32) (![0, 1] : Fin 2 → Fin (shape2 288 32).rank) := by decide
theorem bC : (shape2 1 32).BroadcastsInDim (shape2 288 32) (![0, 1] : Fin 2 → Fin (shape2 288 32).rank) := by decide
theorem win32 : (shape1 32).ReduceWindows (![32] : Fin 1 → Nat) ![1] ![31] ![0] (shape1 32) := by decide
theorem red : (shape2 288 32).ReducesTo [1] (shape1 288) := by decide
theorem sl31 : (shape1 32).Slices ![31] (shape1 1) := by decide
theorem sc0 : (shape1 1).ShapeCasts shape0 := by decide
theorem h0 : 0 < shape0.numel := by decide

/-- A take from 32 words. -/
def takeD : GatherDims (shape1 32) (shape2 288 1) (shape1 288) where
  offsetDims := []
  collapsedSliceDims := [0]
  operandBatchingDims := []
  startIndicesBatchingDims := []
  startIndexMap := [0]
  indexVectorDim := 1
  sliceSizes := ![1]
  wf := by decide

/-- A constant spread. -/
def k32 (v : BitVec 32) : IVec (shape1 32) 32 := broadcastInDim (shape1 32) ![] b32 (constantI shape0 32 v)
def k288 (v : BitVec 32) : IVec (shape1 288) 32 := broadcastInDim (shape1 288) ![] b288 (constantI shape0 32 v)
/-- A running sum. -/
def cum (v : IVec (shape1 32) 32) : IVec (shape1 32) 32 :=
  Host.reduceWindow IntOp.addi ![32] ![1] ![31] ![0] v (broadcastInDim shape0 ![] b00 (constantI shape0 32 0#32)) win32 h0

/-- A difference of two tables of the experts. -/
def sub32 (a b : IVec (shape1 32) 32) : IVec (shape1 32) 32 := subi a b
/-- Whether an expert has rows, and the end of its rows rounded up (before the division). -/
def posAt (gs : IVec (shape1 32) 32) : IVec (shape1 32) 1 := cmpi .sgt gs (k32 0#32)
def upAt (ends : IVec (shape1 32) 32) : IVec (shape1 32) 32 := subi (addi ends (k32 256#32)) (k32 1#32)
/-- The number of rows' tiles of each expert: from its first row's tile to its last row's. -/
def countAt (gs ends first : IVec (shape1 32) 32) : IVec (shape1 32) 32 :=
  select (posAt gs) (sub32 (pyDiv b32 (upAt ends) (constantI shape0 32 256#32)) first) (k32 0#32)
/-- The number of items. -/
def totAt (cend : IVec (shape1 32) 32) : IVec shape0 32 := shapeCast shape0 (extractStridedSlice (shape1 1) ![31] cend sl31) sc0
/-- The points with an item. -/
def liveAt (cend : IVec (shape1 32) 32) : IVec (shape1 288) 1 :=
  cmpi .slt (iotaInDim (shape1 288) 32 0) (broadcastInDim (shape1 288) ![] b288 (totAt cend))
/-- The item of each point. -/
def idcAt (cend : IVec (shape1 32) 32) : IVec (shape1 288) 32 :=
  minsi (iotaInDim (shape1 288) 32 0) (broadcastInDim (shape1 288) ![] b288 (subi (totAt cend) (constantI shape0 32 1#32)))
/-- Its expert. -/
def exAt (cend : IVec (shape1 32) 32) : IVec (shape1 288) 32 := Host.reduce IntOp.addi (extui 32 (cmpi .sge
    (broadcastInDim (shape2 288 32) ![0, 1] bI (broadcastInDim (shape2 288 1) ![0] bcolI (idcAt cend)))
    (broadcastInDim (shape2 288 32) ![0, 1] bC (broadcastInDim (shape2 1 32) ![1] browC cend))) (by decide)) (constantI shape0 32 0#32) red h0
/-- A table of the experts read at each point's expert `e`. -/
def takeAt (e : IVec (shape1 288) 32) (v : IVec (shape1 32) 32) : IVec (shape1 288) 32 := Host.gather takeD v (broadcastInDim (shape2 288 1) ![0] bcolI
  (select (cmpi .slt e (k288 0#32)) (addi e (k288 32#32)) e))
/-- Its tile. -/
def tileAt (first count cend : IVec (shape1 32) 32) : IVec (shape1 288) 32 :=
  subi (addi (takeAt (exAt cend) first) (idcAt cend)) (takeAt (exAt cend) (subi cend count))
/-- A row of the array within the tile, before it is cut to the tile, and after. -/
def relAt (e t : IVec (shape1 288) 32) (v : IVec (shape1 32) 32) : IVec (shape1 288) 32 := subi (takeAt e v) (muli t (k288 256#32))
def clipWith (a b : IVec shape0 32) (v : IVec (shape1 288) 32) : IVec (shape1 288) 32 :=
  minsi (broadcastInDim (shape1 288) ![] b288 b) (maxsi (broadcastInDim (shape1 288) ![] b288 a) v)
def clipAt (v : IVec (shape1 288) 32) : IVec (shape1 288) 32 := clipWith (constantI shape0 32 0#32) (constantI shape0 32 256#32) v

variable (gs : IVec (shape1 32) 32)

/-- The rows up to and with each expert, and before it. -/
def ends : IVec (shape1 32) 32 := cum gs
def starts : IVec (shape1 32) 32 := sub32 (ends gs) gs
/-- The first tile of each expert, the number of its tiles, and their running sum. -/
def first : IVec (shape1 32) 32 := pyDiv b32 (starts gs) (constantI shape0 32 256#32)
def count : IVec (shape1 32) 32 := countAt gs (ends gs) (first gs)
def cend : IVec (shape1 32) 32 := cum (count gs)
def tot : IVec shape0 32 := totAt (cend gs)
def idc : IVec (shape1 288) 32 := idcAt (cend gs)
def exW : IVec (shape1 288) 32 := exAt (cend gs)
def take (v : IVec (shape1 32) 32) : IVec (shape1 288) 32 := takeAt (exW gs) v
def tileW : IVec (shape1 288) 32 := tileAt (first gs) (count gs) (cend gs)
def clip (v : IVec (shape1 32) 32) : IVec (shape1 288) 32 := clipAt (relAt (exW gs) (tileW gs) v)
def loW : IVec (shape1 288) 32 := clip gs (starts gs)
def hiW : IVec (shape1 288) 32 := select (liveAt (cend gs)) (clip gs (ends gs)) (k288 0#32)

theorem k32_ap (v : BitVec 32) (i : (shape1 32).Idx) : k32 v i = v := by unfold k32; rw [bc0, constantI_at]
theorem k288_ap (v : BitVec 32) (i : (shape1 288).Idx) : k288 v i = v := by unfold k288; rw [bc0, constantI_at]

theorem cum_ap (v : IVec (shape1 32) 32) (f : ℕ → ℕ) (hv : ∀ i : Fin 32, v (ix1 i) = BitVec.ofNat 32 (f i.val)) (j : Fin 32) :
    cum v (ix1 j) = BitVec.ofNat 32 (P f (j.val + 1)) := by
  unfold cum
  exact cumsum1 (N := 32) (Nm1 := 31) rfl v f hv _ (by rw [bc0, constantI_at]) win32 h0 j

variable (c : ℕ → ℕ) (hx : ∀ e : Fin 32, gs (ix1 e) = BitVec.ofNat 32 (c e.val)) (hs : P c 32 = 65536)

include hx in
theorem ends_ap (e : Fin 32) : ends gs (ix1 e) = BitVec.ofNat 32 (P c (e.val + 1)) := cum_ap gs c hx e

include hx in
theorem starts_ap (e : Fin 32) : starts gs (ix1 e) = BitVec.ofNat 32 (P c e.val) := by
  unfold starts sub32
  rw [subi_ap, ends_ap gs c hx e, hx e, P_succ, ofNat32_sub (by omega), Nat.add_sub_cancel]

include hs in
theorem P_le (e : Fin 32) : P c e.val + c e.val ≤ 65536 := by
  have := P_mono c (show e.val + 1 ≤ 32 from e.isLt); rw [P_succ] at this; omega

include hx hs in
theorem first_ap (e : Fin 32) : first gs (ix1 e) = BitVec.ofNat 32 (P c e.val / 256) := by
  have := P_le c hs e
  unfold first
  exact pyDiv_ap b32 (starts gs) _ _ (starts_ap gs c hx e) (by rw [constantI_at]) (by omega) (by decide) (by decide)

include hx hs in
theorem count_ap (e : Fin 32) : count gs (ix1 e) = BitVec.ofNat 32 (nt c e.val) := by
  have := P_le c hs e
  have hp := P_succ c e.val
  have h1 : subi (addi (ends gs) (k32 256#32)) (k32 1#32) (ix1 e) = BitVec.ofNat 32 (P c (e.val + 1) + 255) := by
    rw [subi_ap, addi_ap, ends_ap gs c hx e, k32_ap, k32_ap, show (256#32 : BitVec 32) = BitVec.ofNat 32 256 from rfl, show (1#32 : BitVec 32) = BitVec.ofNat 32 1 from rfl,
      BitVec.ofNat_add_ofNat, ofNat32_sub (by omega)]; rfl
  unfold count countAt posAt upAt sub32 nt
  rw [select_at, cmpi_at, hx e, k32_ap, show (0#32 : BitVec 32) = BitVec.ofNat 32 0 from rfl, cmpi_sgt_ofNat (w := 32) (by omega) (by decide), select_decide]
  split
  · next h =>
    rw [subi_ap, pyDiv_ap b32 _ _ _ h1 (show constantI shape0 32 256#32 ix0 = BitVec.ofNat 32 256 by rw [constantI_at]) (by omega) (by decide) (by decide),
      first_ap gs c hx hs e, ofNat32_sub (by omega)]
  · rfl

include hx hs in
theorem cend_ap (e : Fin 32) : cend gs (ix1 e) = BitVec.ofNat 32 (P (nt c) (e.val + 1)) := cum_ap _ (nt c) (count_ap gs c hx hs) e

include hx hs in
theorem tot_ap : tot gs ix0 = BitVec.ofNat 32 (total c) := by
  have h := cend_ap gs c hx hs 31
  unfold tot totAt
  rw [shapeCast_apply _ sc0 ix0 (ix1 (0 : Fin 1)) (by rfl)]
  unfold extractStridedSlice
  refine (congrArg (cend gs) (funext fun a => Fin.ext ?_)).trans h
  match a with
  | ⟨0, _⟩ => rfl

include hx hs in
theorem idc_ap (i : Fin 288) : idc gs (ix1 i) = BitVec.ofNat 32 (item c i.val) := by
  have h1 := total_pos c hs; have h2 := total_le c hs
  unfold idc idcAt item
  show IntOp.minsi _ _ = _
  rw [iota1_ap, bc0, subi_ap, show totAt (cend gs) ix0 = _ from tot_ap gs c hx hs, constantI_at, show (1#32 : BitVec 32) = BitVec.ofNat 32 1 from rfl, ofNat32_sub (by omega),
    minsi_word (by omega) (by omega), Nat.min_comm]

include hx hs in
theorem exW_ap (i : Fin 288) : exW gs (ix1 i) = BitVec.ofNat 32 (ex c i.val) := by
  have h1 := total_pos c hs; have h2 := total_le c hs; have h3 := item_lt c hs i.val
  unfold exW exAt ex
  refine reduce_count (by decide) _ (by decide) red h0 i (fun e => P (nt c) (e + 1) ≤ item c i.val) fun q => ?_
  have h4 := P_mono (nt c) (show q.val + 1 ≤ 32 from q.isLt)
  have h5 := total_eq c
  rw [cmpi_at, bcRows, bcCols, show idcAt (cend gs) (ix1 i) = _ from idc_ap gs c hx hs i, cend_ap gs c hx hs q, cmpi_sge_ofNat_eq_one_iff (w := 32) (by omega) (by omega)]

include hx hs in
theorem take_ap (v : IVec (shape1 32) 32) (f : ℕ → ℕ) (hv : ∀ e : Fin 32, v (ix1 e) = BitVec.ofNat 32 (f e.val)) (i : Fin 288) :
    take gs v (ix1 i) = BitVec.ofNat 32 (f (ex c i.val)) := by
  have h1 := ex_lt c hs i.val
  unfold take takeAt
  refine (gather_take1 takeD rfl rfl rfl rfl v _ i ⟨ex c i.val, h1⟩ ?_ (by decide)).trans (hv ⟨ex c i.val, h1⟩)
  rw [bcCol, select_at, cmpi_at, exW_ap gs c hx hs i, k288_ap, show (0#32 : BitVec 32) = BitVec.ofNat 32 0 from rfl, cmpi_slt_ofNat (w := 32) (by omega) (by decide),
    select_decide, if_neg (by omega)]

include hx hs in
theorem tileW_ap (i : Fin 288) : tileW gs (ix1 i) = BitVec.ofNat 32 (tile c i.val) := by
  have h1 := ex_spec c hs i.val
  have hg : ∀ e : Fin 32, subi (cend gs) (count gs) (ix1 e) = BitVec.ofNat 32 (P (nt c) e.val) := fun e => by
    rw [subi_ap, cend_ap gs c hx hs e, count_ap gs c hx hs e, P_succ, ofNat32_sub (by omega), Nat.add_sub_cancel]
  unfold tileW tileAt tile
  have ht := fun v f hv => take_ap gs c hx hs v f hv i
  unfold take exW at ht
  rw [subi_ap, addi_ap, ht _ (fun e => P c e / 256) (first_ap gs c hx hs), show idcAt (cend gs) (ix1 i) = _ from idc_ap gs c hx hs i, ht _ (fun e => P (nt c) e) hg,
    BitVec.ofNat_add_ofNat, ofNat32_sub (by omega)]

/-- A difference of words below `2 ^ 31`, cut at zero. -/
theorem maxsi_sub {a b : ℕ} (ha : a < 2 ^ 31) (hb : b < 2 ^ 31) : IntOp.maxsi 0#32 (BitVec.ofNat 32 a - BitVec.ofNat 32 b) = BitVec.ofNat 32 (a - b) := by
  rcases Nat.le_total b a with h | h
  · rw [ofNat32_sub h, maxsi_zero_left (by omega)]
  · have e : BitVec.ofNat 32 a - BitVec.ofNat 32 b = -BitVec.ofNat 32 (b - a) := by
      rw [← ofNat32_sub h, BitVec.neg_sub, BitVec.sub_eq_add_neg, BitVec.add_comm]
    rw [e, maxsi_zero_neg (by omega), Nat.sub_eq_zero_of_le h]

include hx hs in
theorem clip_ap (v : IVec (shape1 32) 32) (f : ℕ → ℕ) (hv : ∀ e : Fin 32, v (ix1 e) = BitVec.ofNat 32 (f e.val)) (hf : ∀ e, e < 32 → f e ≤ 65536) (i : Fin 288) :
    clip gs v (ix1 i) = BitVec.ofNat 32 (min 256 (f (ex c i.val) - tile c i.val * 256)) := by
  have h1 := tile_lt c hs i.val
  have h2 := hf _ (ex_lt c hs i.val)
  unfold clip clipAt clipWith relAt
  show IntOp.minsi _ (IntOp.maxsi _ _) = _
  rw [subi_ap, muli_ap, show takeAt (exW gs) v (ix1 i) = _ from take_ap gs c hx hs v f hv i, tileW_ap gs c hx hs, k288_ap, bc0, bc0, constantI_at, constantI_at, show (256#32 : BitVec 32) = BitVec.ofNat 32 256 from rfl,
    BitVec.ofNat_mul_ofNat, maxsi_sub (by omega) (by omega), minsi_word (by omega) (by omega), Nat.min_comm]

include hx hs in
theorem loW_ap (i : Fin 288) : loW gs (ix1 i) = BitVec.ofNat 32 (lo c i.val) :=
  clip_ap gs c hx hs _ (fun e => P c e) (starts_ap gs c hx) (fun e he => by have := P_le c hs ⟨e, he⟩; dsimp only at this; omega) i

include hx hs in
theorem hiW_ap (i : Fin 288) : hiW gs (ix1 i) = BitVec.ofNat 32 (hi c i.val) := by
  have h2 := total_le c hs
  unfold hiW liveAt hi
  rw [select_at, cmpi_at, iota1_ap, bc0, show totAt (cend gs) ix0 = _ from tot_ap gs c hx hs, cmpi_slt_ofNat (w := 32) (by omega) (by omega), select_decide, k288_ap,
    clip_ap gs c hx hs _ (fun e => P c (e + 1)) (ends_ap gs c hx) (fun e he => by have := P_le c hs ⟨e, he⟩; dsimp only at this; have := P_succ c e; omega) i]
  split <;> rfl

end Cert.PlanWords
-- ==== Proof.Tables.lean ====
/-
  The tables of the kernel as its host operations leave them: the plan of the work items over words, applied to the counts.
  The operations are read stretch by stretch, each on any contents.
-/
module

public import proofs.«01_k».proof.Proof.Region
public import proofs.«01_k».proof.Proof.PlanWords
public import Idealize.ShloMosaic.Lib.StableHlo.RunRead

@[expose] public section

set_option maxRecDepth 16384
set_option maxHeartbeats 2000000

noncomputable section

namespace Cert.Kernel.Run

open Cert.Kernel Cert.Kernel.Gen
open Idealize.ShloMosaic Idealize.ShloMosaic.TcCoe Idealize.ShloMosaic.Tactic

variable {F : FTy → Type} [FloatOps F]

/-! ## What each stretch leaves alone -/

theorem skip0 (W : Valuation τ sig (Elt F)) {r : Ref sig .tc} (h : r ∉ ([main_call0_call0_c, main_call0_call0_v0, main_v0] : List (Ref sig .tc))) :
    StableHlo.after hostOps0 W (Proc.devRef .tc r) = W (Proc.devRef .tc r) :=
  StableHlo.after_unwritten _ rfl h W
theorem skip1 (W : Valuation τ sig (Elt F)) {r : Ref sig .tc} (h : r ∉ ([main_v1, main_c] : List (Ref sig .tc))) :
    StableHlo.after hostOps0_1 W (Proc.devRef .tc r) = W (Proc.devRef .tc r) :=
  StableHlo.after_unwritten _ rfl h W
theorem skip2 (W : Valuation τ sig (Elt F)) {r : Ref sig .tc} (h : r ∉ ([main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v2] : List (Ref sig .tc))) :
    StableHlo.after hostOps0_2 W (Proc.devRef .tc r) = W (Proc.devRef .tc r) :=
  StableHlo.after_unwritten _ rfl h W
theorem skip3 (W : Valuation τ sig (Elt F)) {r : Ref sig .tc} (h : r ∉ ([main_c_0, main_v3, main_v4, main_c_1, main_v5, main_v6, main_c_2, main_v7, main_v8, main_c_3] : List (Ref sig .tc))) :
    StableHlo.after hostOps0_3 W (Proc.devRef .tc r) = W (Proc.devRef .tc r) :=
  StableHlo.after_unwritten _ rfl h W
theorem skip4 (W : Valuation τ sig (Elt F)) {r : Ref sig .tc} (h : r ∉ ([main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v9] : List (Ref sig .tc))) :
    StableHlo.after hostOps0_4 W (Proc.devRef .tc r) = W (Proc.devRef .tc r) :=
  StableHlo.after_unwritten _ rfl h W
theorem skip5 (W : Valuation τ sig (Elt F)) {r : Ref sig .tc} (h : r ∉ ([main_v10, main_c_4] : List (Ref sig .tc))) :
    StableHlo.after hostOps0_5 W (Proc.devRef .tc r) = W (Proc.devRef .tc r) :=
  StableHlo.after_unwritten _ rfl h W
theorem skip6 (W : Valuation τ sig (Elt F)) {r : Ref sig .tc} (h : r ∉ ([main_call3_v0, main_call3_v1, main_v11] : List (Ref sig .tc))) :
    StableHlo.after hostOps0_6 W (Proc.devRef .tc r) = W (Proc.devRef .tc r) :=
  StableHlo.after_unwritten _ rfl h W
theorem skip7 (W : Valuation τ sig (Elt F)) {r : Ref sig .tc} (h : r ∉ ([main_call4_call0_c, main_call4_call0_v0, main_v12] : List (Ref sig .tc))) :
    StableHlo.after hostOps0_7 W (Proc.devRef .tc r) = W (Proc.devRef .tc r) :=
  StableHlo.after_unwritten _ rfl h W
theorem skip8 (W : Valuation τ sig (Elt F)) {r : Ref sig .tc} (h : r ∉ ([main_v13, main_v14, main_v15, main_v16, main_v17, main_c_5, main_v18, main_v19, main_v20, main_v21, main_v22, main_v23, main_v24, main_v25, main_v26, main_c_6, main_v27, main_c_7, main_v28, main_v29, main_c_8, main_v30, main_v31, main_v32, main_v33, main_v34, main_v35, main_v36, main_c_9, main_v37, main_v38, main_c_10, main_v39, main_v40, main_v41, main_v42, main_v43, main_v44, main_c_11, main_v45, main_v46, main_c_12, main_v47, main_v48, main_v49, main_v50, main_v51, main_c_13, main_v52, main_v53, main_v54, main_c_14, main_c_15] : List (Ref sig .tc))) :
    StableHlo.after hostOps0_8 W (Proc.devRef .tc r) = W (Proc.devRef .tc r) :=
  StableHlo.after_unwritten _ rfl h W
theorem skip9 (W : Valuation τ sig (Elt F)) {r : Ref sig .tc} (h : r ∉ ([main_call5_v0, main_call5_v1, main_call5_v2, main_call5_v3, main_call5_v4, main_v55] : List (Ref sig .tc))) :
    StableHlo.after hostOps0_9 W (Proc.devRef .tc r) = W (Proc.devRef .tc r) :=
  StableHlo.after_unwritten _ rfl h W
theorem skip10 (W : Valuation τ sig (Elt F)) {r : Ref sig .tc} (h : r ∉ ([main_c_16, main_v56, main_v57, main_c_17, main_v58, main_v59, main_v60, main_v61, main_v62, main_c_18, main_v63, main_v64, main_v65, main_c_19, main_c_20] : List (Ref sig .tc))) :
    StableHlo.after hostOps0_10 W (Proc.devRef .tc r) = W (Proc.devRef .tc r) :=
  StableHlo.after_unwritten _ rfl h W
theorem skip11 (W : Valuation τ sig (Elt F)) {r : Ref sig .tc} (h : r ∉ ([main_call6_v0, main_call6_v1, main_call6_v2, main_call6_v3, main_call6_v4, main_v66] : List (Ref sig .tc))) :
    StableHlo.after hostOps0_11 W (Proc.devRef .tc r) = W (Proc.devRef .tc r) :=
  StableHlo.after_unwritten _ rfl h W
theorem skip12 (W : Valuation τ sig (Elt F)) {r : Ref sig .tc} (h : r ∉ ([main_c_21] : List (Ref sig .tc))) :
    StableHlo.after hostOps0_12 W (Proc.devRef .tc r) = W (Proc.devRef .tc r) :=
  StableHlo.after_unwritten _ rfl h W
theorem skip13 (W : Valuation τ sig (Elt F)) {r : Ref sig .tc} (h : r ∉ ([main_call7_v0, main_call7_v1, main_v67] : List (Ref sig .tc))) :
    StableHlo.after hostOps0_13 W (Proc.devRef .tc r) = W (Proc.devRef .tc r) :=
  StableHlo.after_unwritten _ rfl h W
theorem skip14 (W : Valuation τ sig (Elt F)) {r : Ref sig .tc} (h : r ∉ ([main_v68] : List (Ref sig .tc))) :
    StableHlo.after hostOps0_14 W (Proc.devRef .tc r) = W (Proc.devRef .tc r) :=
  StableHlo.after_unwritten _ rfl h W

/-! ## What each stretch computes -/

variable (W : Valuation τ sig (Elt F))

theorem s0_v0 : StableHlo.after hostOps0 W (Proc.devRef .tc main_v0) = PlanWords.cum (W (Proc.devRef .tc main_arg1)) := by
  after_reads_simp
  simp only [StableHlo.TRef.ofBuf_toBuf, StableHlo.TRef.ofBuf, StableHlo.TRef.toBuf, cast_eq]
  unfold PlanWords.cum
  rfl
theorem s1_v1 : StableHlo.after hostOps0_1 W (Proc.devRef .tc main_v1) = PlanWords.sub32 (W (Proc.devRef .tc main_v0)) (W (Proc.devRef .tc main_arg1)) := by
  after_reads_simp
  rfl
theorem s1_c : StableHlo.after hostOps0_1 W (Proc.devRef .tc main_c) = constantI S_ 32 256#32 := by
  after_reads_simp
theorem s2_v2 : StableHlo.after hostOps0_2 W (Proc.devRef .tc main_v2) = Routing.pyDiv PlanWords.b32 (W (Proc.devRef .tc main_v1)) (W (Proc.devRef .tc main_c)) := by
  after_reads_simp
  simp only [StableHlo.TRef.ofBuf_toBuf]
  rfl
theorem s3_v4 : StableHlo.after hostOps0_3 W (Proc.devRef .tc main_v4) = PlanWords.posAt (W (Proc.devRef .tc main_arg1)) := by
  after_reads_simp
  rfl
theorem s3_v8 : StableHlo.after hostOps0_3 W (Proc.devRef .tc main_v8) = PlanWords.upAt (W (Proc.devRef .tc main_v0)) := by
  after_reads_simp
  rfl
theorem s3_c_3 : StableHlo.after hostOps0_3 W (Proc.devRef .tc main_c_3) = constantI S_ 32 256#32 := by
  after_reads_simp
theorem s4_v9 : StableHlo.after hostOps0_4 W (Proc.devRef .tc main_v9) = Routing.pyDiv PlanWords.b32 (W (Proc.devRef .tc main_v8)) (W (Proc.devRef .tc main_c_3)) := by
  after_reads_simp
  simp only [StableHlo.TRef.ofBuf_toBuf]
  rfl
theorem s5_v10 : StableHlo.after hostOps0_5 W (Proc.devRef .tc main_v10) = PlanWords.sub32 (W (Proc.devRef .tc main_v9)) (W (Proc.devRef .tc main_v2)) := by
  after_reads_simp
  rfl
theorem s5_c_4 : StableHlo.after hostOps0_5 W (Proc.devRef .tc main_c_4) = constantI S_ 32 0#32 := by
  after_reads_simp
theorem s6_v11 : StableHlo.after hostOps0_6 W (Proc.devRef .tc main_v11) = select ((W (Proc.devRef .tc main_v4)) : IVec S32 1) ((W (Proc.devRef .tc main_v10)) : IVec S32 32) (broadcastInDim S32 ![] bcast_S_S32 ((W (Proc.devRef .tc main_c_4)) : IVec S_ 32)) := by
  after_reads_simp
  simp only [StableHlo.TRef.ofBuf_toBuf]
  rfl
theorem s7_v12 : StableHlo.after hostOps0_7 W (Proc.devRef .tc main_v12) = PlanWords.cum (W (Proc.devRef .tc main_v11)) := by
  after_reads_simp
  simp only [StableHlo.TRef.ofBuf_toBuf, StableHlo.TRef.ofBuf, StableHlo.TRef.toBuf, cast_eq]
  unfold PlanWords.cum
  rfl
theorem s8_v17 : StableHlo.after hostOps0_8 W (Proc.devRef .tc main_v17) = PlanWords.liveAt (W (Proc.devRef .tc main_v12)) := by
  after_reads_simp
  rfl
theorem s8_v27 : StableHlo.after hostOps0_8 W (Proc.devRef .tc main_v27) = PlanWords.exAt (W (Proc.devRef .tc main_v12)) := by
  after_reads_simp
  rfl
theorem s8_v44 : StableHlo.after hostOps0_8 W (Proc.devRef .tc main_v44) = PlanWords.tileAt (W (Proc.devRef .tc main_v2)) (W (Proc.devRef .tc main_v11)) (W (Proc.devRef .tc main_v12)) := by
  after_reads_simp
  rfl
theorem s8_v54 : StableHlo.after hostOps0_8 W (Proc.devRef .tc main_v54) = PlanWords.relAt (PlanWords.exAt (W (Proc.devRef .tc main_v12))) (PlanWords.tileAt (W (Proc.devRef .tc main_v2)) (W (Proc.devRef .tc main_v11)) (W (Proc.devRef .tc main_v12))) (W (Proc.devRef .tc main_v1)) := by
  after_reads_simp
  rfl
theorem s8_c_14 : StableHlo.after hostOps0_8 W (Proc.devRef .tc main_c_14) = constantI S_ 32 0#32 := by
  after_reads_simp
theorem s8_c_15 : StableHlo.after hostOps0_8 W (Proc.devRef .tc main_c_15) = constantI S_ 32 256#32 := by
  after_reads_simp
theorem s9_v55 : StableHlo.after hostOps0_9 W (Proc.devRef .tc main_v55) = PlanWords.clipWith (W (Proc.devRef .tc main_c_14)) (W (Proc.devRef .tc main_c_15)) (W (Proc.devRef .tc main_v54)) := by
  after_reads_simp
  simp only [StableHlo.TRef.ofBuf_toBuf]
  rfl
theorem s10_v65 : StableHlo.after hostOps0_10 W (Proc.devRef .tc main_v65) = PlanWords.relAt (W (Proc.devRef .tc main_v27)) (W (Proc.devRef .tc main_v44)) (W (Proc.devRef .tc main_v0)) := by
  after_reads_simp
  rfl
theorem s10_c_19 : StableHlo.after hostOps0_10 W (Proc.devRef .tc main_c_19) = constantI S_ 32 0#32 := by
  after_reads_simp
theorem s10_c_20 : StableHlo.after hostOps0_10 W (Proc.devRef .tc main_c_20) = constantI S_ 32 256#32 := by
  after_reads_simp
theorem s11_v66 : StableHlo.after hostOps0_11 W (Proc.devRef .tc main_v66) = PlanWords.clipWith (W (Proc.devRef .tc main_c_19)) (W (Proc.devRef .tc main_c_20)) (W (Proc.devRef .tc main_v65)) := by
  after_reads_simp
  simp only [StableHlo.TRef.ofBuf_toBuf]
  rfl
theorem s12_c_21 : StableHlo.after hostOps0_12 W (Proc.devRef .tc main_c_21) = constantI S_ 32 0#32 := by
  after_reads_simp
theorem s13_v67 : StableHlo.after hostOps0_13 W (Proc.devRef .tc main_v67) = select ((W (Proc.devRef .tc main_v17)) : IVec S288 1) ((W (Proc.devRef .tc main_v66)) : IVec S288 32) (broadcastInDim S288 ![] bcast_S_S288 ((W (Proc.devRef .tc main_c_21)) : IVec S_ 32)) := by
  after_reads_simp
  simp only [StableHlo.TRef.ofBuf_toBuf]
  rfl
theorem s14_v68 : StableHlo.after hostOps0_14 W (Proc.devRef .tc main_v68) = shapeCast S32x1x5632 ((W (Proc.devRef .tc main_arg3)) : FVec F S32x5632 .f32) shapeCasts_S32x5632_S32x1x5632 := by
  after_reads_simp
  rfl

/-! ## The tables -/

variable (m : (ℓ : Loc nD τ sig) → Buf (Elt F) ℓ) (c : Dev nD)

/-- The contents at the region's entry, stretch by stretch. -/
theorem V_eq (b : Ref sig .tc) : V m c b = StableHlo.after hostOps0_14 (StableHlo.after hostOps0_13 (StableHlo.after hostOps0_12 (StableHlo.after hostOps0_11
    (StableHlo.after hostOps0_10 (StableHlo.after hostOps0_9 (StableHlo.after hostOps0_8 (StableHlo.after hostOps0_7 (StableHlo.after hostOps0_6
    (StableHlo.after hostOps0_5 (StableHlo.after hostOps0_4 (StableHlo.after hostOps0_3 (StableHlo.after hostOps0_2 (StableHlo.after hostOps0_1
    (StableHlo.after hostOps0 (fun b => m (c, b)))))))))))))))) (Proc.devRef .tc b) := by
  unfold V ops
  simp only [List.flatten_cons, List.flatten_nil, List.append_nil, StableHlo.after_append]

/-- The arguments are as they were, and the tables are the plan over words. -/
theorem V_all : (V m c main_arg0 = m (c, main_arg0) ∧ V m c main_arg1 = m (c, main_arg1) ∧ V m c main_arg2 = m (c, main_arg2)
      ∧ V m c main_arg3 = m (c, main_arg3))
    ∧ V m c main_v44 = PlanWords.tileW (m (c, main_arg1)) ∧ V m c main_v27 = PlanWords.exW (m (c, main_arg1))
    ∧ V m c main_v55 = PlanWords.loW (m (c, main_arg1)) ∧ V m c main_v67 = PlanWords.hiW (m (c, main_arg1))
    ∧ V m c main_v68 = shapeCast S32x1x5632 (m (c, main_arg3) : FVec F S32x5632 .f32) shapeCasts_S32x5632_S32x1x5632 := by
  simp only [V_eq]
  refine ⟨⟨?_, ?_, ?_, ?_⟩, ?_, ?_, ?_, ?_, ?_⟩
  all_goals
    repeat first
      | rw [s14_v68] | rw [skip14 _ (by decide)]
      | rw [s13_v67] | rw [skip13 _ (by decide)]
      | rw [s12_c_21] | rw [skip12 _ (by decide)]
      | rw [s11_v66] | rw [skip11 _ (by decide)]
      | rw [s10_v65] | rw [s10_c_19] | rw [s10_c_20] | rw [skip10 _ (by decide)]
      | rw [s9_v55] | rw [skip9 _ (by decide)]
      | rw [s8_v17] | rw [s8_v27] | rw [s8_v44] | rw [s8_v54] | rw [s8_c_14] | rw [s8_c_15] | rw [skip8 _ (by decide)]
      | rw [s7_v12] | rw [skip7 _ (by decide)]
      | rw [s6_v11] | rw [skip6 _ (by decide)]
      | rw [s5_v10] | rw [s5_c_4] | rw [skip5 _ (by decide)]
      | rw [s4_v9] | rw [skip4 _ (by decide)]
      | rw [s3_v4] | rw [s3_v8] | rw [s3_c_3] | rw [skip3 _ (by decide)]
      | rw [s2_v2] | rw [skip2 _ (by decide)]
      | rw [s1_v1] | rw [s1_c] | rw [skip1 _ (by decide)]
      | rw [s0_v0] | rw [skip0 _ (by decide)]
  all_goals try simp only [PlanWords.tileW, PlanWords.exW, PlanWords.loW, PlanWords.hiW, PlanWords.clip, PlanWords.clipAt, PlanWords.cend, PlanWords.count,
    PlanWords.countAt, PlanWords.first, PlanWords.starts, PlanWords.ends, PlanWords.k288, PlanWords.k32]
  all_goals rfl

end Cert.Kernel.Run
-- ==== Proof.Groups.lean ====
/-
  The precondition decoded: the counts are words of naturals whose sum is 65536.
-/
module

public import proofs.«01_k».proof.Proof.PlanNat
public import proofs.«01_k».proof.Proof.Gen.Pre_groups
public import Idealize.ShloMosaic.Lib.Routing.Ops
public import Idealize.ShloMosaic.Lib.ReduceAll
public import Idealize.ShloMosaic.Lib.PlanTiles.Rows

@[expose] public section

noncomputable section

namespace Cert.Groups

open Idealize.ShloMosaic Idealize.ShloMosaic.ValueIdx Idealize.ShloMosaic.WordCmp
open Idealize.ShloMosaic.Routing (bc0 reduce_sum)
open Cert.Pre_groups Cert.Pre_groups.Facts

/-- The counts as naturals. -/
def cnt (gs : IVec S32 32) (e : ℕ) : ℕ := if h : e < 32 then (gs (ix1 (⟨e, h⟩ : Fin 32))).toNat else 0

theorem cnt_word (gs : IVec S32 32) (e : Fin 32) : gs (ix1 e) = BitVec.ofNat 32 (cnt gs e.val) := by
  unfold cnt
  rw [dif_pos e.isLt, BitVec.ofNat_toNat, BitVec.setWidth_eq]

theorem and_one {x y : BitVec 1} (h : IntOp.andi x y = 1#1) : x = 1#1 ∧ y = 1#1 := by revert h; revert x y; decide

instance : Subsingleton S_.Idx := ⟨fun a b => (eq_ix0 a).trans (eq_ix0 b).symm⟩

variable {F : FTy → Type} [FloatOps F] {a0 : FVec F S65536x2816 .bf16} {gs : IVec S32 32} {a2 : FVec F S32x2816x5632 .fp8e4m3} {a3 : FVec F S32x5632 .f32}

theorem sum_cnt (h : fn a0 gs a2 a3 = fun _ => 1#1) : Plan.P (cnt gs) 32 = 65536 := by
  have h0 := congrFun h ix0
  unfold fn at h0
  obtain ⟨h1, h2⟩ := and_one h0
  have hb : ∀ e, e < 32 → cnt gs e ≤ 65536 := fun e he => by
    have h3 := Host.reduce_andi_all _ _ _ _ _ h1 (ix1 (⟨e, he⟩ : Fin 32))
    obtain ⟨h4, h5⟩ := and_one h3
    rw [cmpi_at, bc0, constantI_at] at h4 h5
    rw [cmpi_sge_eq, show (0#32 : BitVec 32).toInt = 0 from rfl, ofBool_decide_eq_one_iff] at h4
    rw [cmpi_sle_eq, show (65536#32 : BitVec 32).toInt = 65536 from rfl, ofBool_decide_eq_one_iff] at h5
    unfold cnt
    rw [dif_pos he]
    rw [BitVec.toInt_eq_toNat_cond] at h4 h5
    split at h4 <;> omega
  have hle : ∀ n, n ≤ 32 → Plan.P (cnt gs) n ≤ n * 65536 := fun n => by
    induction n with
    | zero => intro _; rw [Plan.P_zero]
    | succ n ih => intro hn; have := hb n (by omega); have := ih (by omega); rw [Plan.P_succ]; omega
  have hs := reduce_sum gs (cnt gs) (cnt_word gs) reducesTo_S32_S_d0 h_S_
  have h9 : BitVec.ofNat 32 (Plan.P (cnt gs) 32) = 65536#32 := by
    refine hs.symm.trans ?_
    simp only [cmpi_at, constantI_at, cmpi_eq_eq] at h2
    by_contra hc
    rw [decide_eq_false hc] at h2
    exact absurd h2 (by decide)
  have h10 := congrArg BitVec.toNat h9
  rw [BitVec.toNat_ofNat, Nat.mod_eq_of_lt (by have := hle 32 (le_refl _); omega)] at h10
  exact h10

end Cert.Groups
-- ==== Proof.Live.lean ====
/-
  The region's tables under the precondition: every block lies inside its array, and a point's item has rows exactly when the plan says so.
-/
module

public import proofs.«01_k».proof.Proof.Tables
public import proofs.«01_k».proof.Proof.Groups
public import Idealize.ShloMosaic.Lib.Affine

@[expose] public section

set_option maxRecDepth 16384

noncomputable section

namespace Cert.Kernel.Run

open Cert.Kernel Cert.Kernel.Gen
open Idealize.ShloMosaic Idealize.ShloMosaic.TcCoe Idealize.ShloMosaic.ValueIdx
open Cert.Plan

variable {F : FTy → Type} [FloatOps F]
variable (m : (ℓ : Loc nD τ sig) → Buf (Elt F) ℓ)

/-- The counts in memory. -/
abbrev gs (c : Dev nD) : IVec (Routing.shape1 32) 32 := m (c, main_arg1)

/-- The counts as naturals. -/
def cn : ℕ → ℕ := Groups.cnt (gs m 0)

/-- The precondition, of the memory. -/
abbrev Pre : Prop := ∀ c : Dev nD, Pre_groups.fn (F := F) (m (c, main_arg0)) (m (c, main_arg1)) (m (c, main_arg2)) (m (c, main_arg3)) = fun _ => 1#1

variable (hp : Pre m)

include hp in
theorem cn_sum : P (cn m) 32 = 65536 := Groups.sum_cnt (hp 0)

theorem cn_word (e : Fin 32) : gs m 0 (ix1 e) = BitVec.ofNat 32 (cn m e.val) := Groups.cnt_word _ e

/-- A grid point's number. -/
abbrev pt (i : grid0.Coords) : Fin 288 := i 0

include hp in
theorem tbl_tile (i : Fin 288) : (tbl m 0 : IVec S288 32) (ix1 i) = BitVec.ofNat 32 (tile (cn m) i.val) :=
  (congrFun (V_all m 0).2.1 (ix1 i)).trans (PlanWords.tileW_ap _ _ (cn_word m) (cn_sum m hp) i)
include hp in
theorem tbl_ex (i : Fin 288) : (tbl m 1 : IVec S288 32) (ix1 i) = BitVec.ofNat 32 (ex (cn m) i.val) :=
  (congrFun (V_all m 0).2.2.1 (ix1 i)).trans (PlanWords.exW_ap _ _ (cn_word m) (cn_sum m hp) i)
include hp in
theorem tbl_lo (i : Fin 288) : (tbl m 2 : IVec S288 32) (ix1 i) = BitVec.ofNat 32 (lo (cn m) i.val) :=
  (congrFun (V_all m 0).2.2.2.1 (ix1 i)).trans (PlanWords.loW_ap _ _ (cn_word m) (cn_sum m hp) i)
include hp in
theorem tbl_hi (i : Fin 288) : (tbl m 3 : IVec S288 32) (ix1 i) = BitVec.ofNat 32 (hi (cn m) i.val) :=
  (congrFun (V_all m 0).2.2.2.2.1 (ix1 i)).trans (PlanWords.hiW_ap _ _ (cn_word m) (cn_sum m hp) i)

/-- The index at which a point reads a table. -/
theorem pt_emb (i : grid0.Coords) (k : S1.Idx) : (Rect.unit (s := S288) (k0_off1 i) S1.size (k0_off1_inb i)).emb k = ix1 (pt i) := by
  funext a
  match a with
  | ⟨0, _⟩ =>
    apply Fin.ext
    have hk : (k 0).val = 0 := by have := (k 0).isLt; change (k 0).val < 1 at this; omega
    have hi := (pt i).isLt
    show (BitVec.ofNat 32 (pt i).val).toNat + 1 * (k 0).val = (pt i).val
    rw [hk, BitVec.toNat_ofNat, Nat.mod_eq_of_lt (by omega)]
    omega

theorem word_eq (c : Dev nD) (i : grid0.Coords) (x : IVec S288 32) : word (F := F) c tb2 i x = x (ix1 (pt i)) := congrArg x (pt_emb i _)
theorem word_eq3 (c : Dev nD) (i : grid0.Coords) (x : IVec S288 32) : word (F := F) c tb3 i x = x (ix1 (pt i)) := congrArg x (pt_emb i _)

theorem cond1_iff (a b : BitVec 32) : k0_cond1 a b = 1#1 ↔ IntOp.cmpi .sgt b a = 1#1 := by
  unfold k0_cond1
  show IntOp.cmpi .ne (BitVec.setWidth 32 (IntOp.cmpi .sgt b a)) 0#32 = 1#1 ↔ _
  generalize IntOp.cmpi .sgt b a = x
  revert x; decide

include hp in
/-- A point's item has rows when the point is below the number of items. -/
theorem live_iff (c : Dev nD) (i : grid0.Coords) : Live m c i ↔ (pt i).val < total (cn m) := by
  have hl := lo_le (cn m) (pt i).val
  have hh := hi_le (cn m) (pt i).val
  show k0_cond1 (word c tb2 i (tbl m 2)) (word c tb3 i (tbl m 3)) = 1#1 ↔ _
  rw [show word c tb2 i (tbl m 2) = _ from (word_eq c i (tbl m 2)).trans (tbl_lo m hp (pt i)),
    show word c tb3 i (tbl m 3) = _ from (word_eq3 c i (tbl m 3)).trans (tbl_hi m hp (pt i)), cond1_iff,
    WordCmp.cmpi_sgt_ofNat_eq_one_iff (w := 32) (by omega) (by omega)]
  exact lo_lt_hi_iff (cn m) (cn_sum m hp) _

include hp in
theorem ix_tile (i : grid0.Coords) : cc0_transform_0 k0_off1_inb numel1_S1 (tbl m) i = ![tile (cn m) (pt i).val, 0] := by
  have h := tile_lt (cn m) (cn_sum m hp) (pt i).val
  have e : (tbl m 0 : IVec S288 32) ((Rect.unit (s := S288) (k0_off1 i) S1.size (k0_off1_inb i)).emb (Shape.Idx.first (numel1_S1.symm ▸ Nat.one_pos)))
      = BitVec.ofNat 32 (tile (cn m) (pt i).val) := (congrArg _ (pt_emb i _)).trans (tbl_tile m hp (pt i))
  have e' := congrArg BitVec.toNat e
  rw [BitVec.toNat_ofNat, Nat.mod_eq_of_lt (by omega)] at e'
  funext a
  match a with
  | ⟨0, _⟩ => exact e'
  | ⟨1, _⟩ => rfl

include hp in
theorem ix_ex (i : grid0.Coords) : cc0_transform_1 k0_off1_inb numel1_S1 (tbl m) i = ![ex (cn m) (pt i).val, 0, 0] := by
  have h := ex_lt (cn m) (cn_sum m hp) (pt i).val
  have e : (tbl m 1 : IVec S288 32) ((Rect.unit (s := S288) (k0_off1 i) S1.size (k0_off1_inb i)).emb (Shape.Idx.first (numel1_S1.symm ▸ Nat.one_pos)))
      = BitVec.ofNat 32 (ex (cn m) (pt i).val) := (congrArg _ (pt_emb i _)).trans (tbl_ex m hp (pt i))
  have e' := congrArg BitVec.toNat e
  rw [BitVec.toNat_ofNat, Nat.mod_eq_of_lt (by omega)] at e'
  funext a
  match a with
  | ⟨0, _⟩ => exact e'
  | ⟨1, _⟩ => rfl
  | ⟨2, _⟩ => rfl

include hp in
/-- Every block lies inside its array. -/
theorem ok : ok0 (tbl m) := by
  have ht := fun i : grid0.Coords => tile_lt (cn m) (cn_sum m hp) (pt i).val
  have he := fun i : grid0.Coords => ex_lt (cn m) (cn_sum m hp) (pt i).val
  have h0 : ∀ (i : grid0.Coords) a, (cc0_transform_0 k0_off1_inb numel1_S1 (tbl m) i a + 1) * S256x2816.size a ≤ S65536x2816.size a := fun i a => by
    rw [ix_tile m hp]
    match a with
    | ⟨0, _⟩ => show (tile (cn m) (pt i).val + 1) * 256 ≤ 65536; have := ht i; omega
    | ⟨1, _⟩ => show (0 + 1) * 2816 ≤ 2816; omega
  have h1 : ∀ (i : grid0.Coords) a, (cc0_transform_1 k0_off1_inb numel1_S1 (tbl m) i a + 1) * S1x2816x5632.size a ≤ S32x2816x5632.size a := fun i a => by
    rw [ix_ex m hp]
    match a with
    | ⟨0, _⟩ => show (ex (cn m) (pt i).val + 1) * 1 ≤ 32; have := he i; omega
    | ⟨1, _⟩ => show (0 + 1) * 2816 ≤ 2816; omega
    | ⟨2, _⟩ => show (0 + 1) * 5632 ≤ 5632; omega
  have h2 : ∀ (i : grid0.Coords) a, (cc0_transform_2 k0_off1_inb numel1_S1 (tbl m) i a + 1) * S1x1x5632.size a ≤ S32x1x5632.size a := fun i a => by
    rw [show cc0_transform_2 k0_off1_inb numel1_S1 (tbl m) i = _ from ix_ex m hp i]
    match a with
    | ⟨0, _⟩ => show (ex (cn m) (pt i).val + 1) * 1 ≤ 32; have := he i; omega
    | ⟨1, _⟩ => show (0 + 1) * 1 ≤ 1; omega
    | ⟨2, _⟩ => show (0 + 1) * 5632 ≤ 5632; omega
  have h4 : ∀ (i : grid0.Coords) a, (cc0_transform_4 k0_off1_inb numel1_S1 (tbl m) i a + 1) * S256x1.size a ≤ S65536x1.size a := fun i a => by
    rw [show cc0_transform_4 k0_off1_inb numel1_S1 (tbl m) i = _ from ix_tile m hp i]
    match a with
    | ⟨0, _⟩ => show (tile (cn m) (pt i).val + 1) * 256 ≤ 65536; have := ht i; omega
    | ⟨1, _⟩ => show (0 + 1) * 1 ≤ 1; omega
  refine ⟨fun i => ⟨h0 i, .inr ?_⟩, fun i => ⟨h1 i, .inr ?_⟩, fun i => ⟨h2 i, .inl rfl⟩, fun i => ⟨h0 i, .inr ?_⟩, fun i => ⟨h4 i, .inl rfl⟩⟩
  · exact Affine.block_words_dvd (by decide) (by decide)
  · exact Affine.block_words_rows (by decide) rfl
  · exact Affine.block_words_dvd (by decide) (by decide)

end Cert.Kernel.Run
-- ==== Proof.Quiet.lean ====
/-
  The kernel runs, and leaves its arguments and the semaphores as it found them.
-/
module

public import proofs.«01_k».proof.Proof.Live
public import Idealize.ShloMosaic.Lib.StableHlo.RunHlo

@[expose] public section

set_option maxRecDepth 16384

noncomputable section

namespace Cert.Kernel.Run

open Cert.Kernel Cert.Kernel.Gen
open Idealize.ShloMosaic Idealize.ShloMosaic.TcCoe Idealize.SL.Sem
open Idealize.ShloMosaic.Pipeline (RDat)

variable {F : FTy → Type} [FloatOps F]
variable (m : (ℓ : Loc nD τ sig) → Buf (Elt F) ℓ) (ρ : Dev nD → PrngReg)

/-- The arguments after a run of the region, whatever the relation on the outputs. -/
theorem args_of_post (hok : ok0 (tbl m)) (R : Rel m hok) (r : PUnit × MemSt nD τ sig (Elt F))
    (h : RDat.FramePost (cfg m hok) (rdat m hok R) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have hv := (V_all m c).1
  refine ⟨?_, ?_, ?_, ?_⟩
  · exact (RDat.FramePost.arr_in h c 0 rfl).trans hv.1
  · exact ((h c).2 main_arg1 (Pipeline.mem_restRefs_of main_arg1 rfl (show ∀ w, (spec0 w).arr.view.ref ≠ main_arg1 by decide))).trans hv.2.1
  · exact (RDat.FramePost.arr_in h c 1 rfl).trans hv.2.2.1
  · exact ((h c).2 main_arg3 (Pipeline.mem_restRefs_of main_arg3 rfl (show ∀ w, (spec0 w).arr.view.ref ≠ main_arg3 by decide))).trans hv.2.2.2

/-- The kernel runs and is quiet. -/
theorem quiet (hp : Pre m) :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine θ_run_mono (run_main m ρ (ok m hp) (fun _ _ _ _ => True) (fun c => ?_) (fun c => ?_))
    fun r h => ⟨args_of_post m (ok m hp) (fun _ _ _ _ => True) r h.1, h.2⟩
  · intro t _ Y _ w
    exact trivial
  · intro t hc Y hY f5 f6 f7 f8 f9 f10 f11 f12 _ _ _ _ _
    exact ⟨trivial, trivial, trivial, trivial, trivial⟩

end Cert.Kernel.Run
-- ==== Proof.IdealRun.lean ====
/-
  One grid point of the kernel, run: the body at a point whose item has rows to work on (`runLive`), and at one that has none
  (`runIdle`). `runLive` finds, for each buffer the body writes, the list of pieces it leaves there, as functions of what it reads.
-/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The four prefetched tables as the body is handed them: tile, expert, first row, last row. -/
abbrev tb0 : Memref sig .tc .smem S288 .i32 := Memref.whole main_v44
abbrev tb1 : Memref sig .tc .smem S288 .i32 := Memref.whole main_v27
abbrev tb2 : Memref sig .tc .smem S288 .i32 := Memref.whole main_v55
abbrev tb3 : Memref sig .tc .smem S288 .i32 := Memref.whole main_v67
/-- The scratch buffers: the codes of `x`, its scales, the hidden activations. -/
abbrev sc0 : Memref sig .tc .vmem S256x2816 .fp8e4m3 := Memref.whole cc0_scratch0
abbrev sc1 : Memref sig .tc .vmem S256x128 .f32 := Memref.whole cc0_scratch1
abbrev sc2 : Memref sig .tc .vmem S256x2816 .f32 := Memref.whole cc0_scratch2

/-- A table's contents, and the table held at half the full share. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The word of a table at a point, and at the point before it (the first point's own). -/
abbrev word (c : Dev nD) (M : Memref sig .tc .smem S288 .i32) (i : grid0.Coords) (xt : TbBuf (F := F) c M) : BitVec 32 :=
  M.view.readAt (Elt F) (Rect.unit (s := S288) (k0_off1 i) S1.size (k0_off1_inb i)) xt (Shape.Idx.first (numel1_S1.symm ▸ Nat.one_pos))
abbrev wordBefore (c : Dev nD) (M : Memref sig .tc .smem S288 .i32) (i : grid0.Coords) (xt : TbBuf (F := F) c M) : BitVec 32 :=
  M.view.readAt (Elt F) (Rect.unit (s := S288) (k0_off2 i) S1.size (k0_off2_inb i)) xt (Shape.Idx.first (numel1_S1.symm ▸ Nat.one_pos))

/-- A memref's buffer held whole at raw contents. -/
abbrev raw (c : Dev nD) {S : Shape} {e : EltTy} (M : Memref sig .tc .vmem S e) (f : BufTy.Contents (Elt F) M.view.ty) : sProp 𝕄 :=
  M.view.loc (c : Thread nD τ) ↦[M.view.set]{fullShare} f

/-- A scratch buffer held whole at some contents. -/
abbrev any (c : Dev nD) {S : Shape} {e : EltTy} (M : Memref sig .tc .vmem S e) : sProp 𝕄 := iprop(∃ f, raw (F := F) c M f)

/-- What the body holds: the tables, the three input blocks, the two output buffers and the scratch. -/
abbrev held (c : Dev nD) (xt0 : TbBuf (F := F) c tb0) (xt1 : TbBuf (F := F) c tb1) (xt2 : TbBuf (F := F) c tb2) (xt3 : TbBuf (F := F) c tb3)
    (arg5 : Memref sig .tc .vmem S256x2816 .bf16) (arg6 : Memref sig .tc .vmem S1x2816x5632 .fp8e4m3) (arg7 : Memref sig .tc .vmem S1x1x5632 .f32)
    (arg8 : Memref sig .tc .vmem S256x2816 .fp8e4m3) (arg9 : Memref sig .tc .vmem S256x1 .f32)
    (f5 : BufTy.Contents (Elt F) arg5.view.ty) (f6 : BufTy.Contents (Elt F) arg6.view.ty) (f7 : BufTy.Contents (Elt F) arg7.view.ty)
    (f8 : BufTy.Contents (Elt F) arg8.view.ty) (f9 : BufTy.Contents (Elt F) arg9.view.ty)
    (f10 : BufTy.Contents (Elt F) sc0.view.ty) (f11 : BufTy.Contents (Elt F) sc1.view.ty) (f12 : BufTy.Contents (Elt F) sc2.view.ty) : sProp 𝕄 :=
  iprop(tbPt c tb0 xt0 ∗ tbPt c tb1 xt1 ∗ tbPt c tb2 xt2 ∗ tbPt c tb3 xt3
    ∗ raw c arg5 f5 ∗ raw c arg6 f6 ∗ raw c arg7 f7 ∗ raw c arg8 f8 ∗ raw c arg9 f9 ∗ raw c sc0 f10 ∗ raw c sc1 f11 ∗ raw c sc2 f12)

set_option maxHeartbeats 2000000 in
/-- A point whose item has no rows: the body reads its bounds and leaves every buffer as it was. -/
theorem runIdle (c : Dev nD) (i : grid0.Coords) (xt0 : TbBuf (F := F) c tb0) (xt1 : TbBuf (F := F) c tb1) (xt2 : TbBuf (F := F) c tb2) (xt3 : TbBuf (F := F) c tb3)
    (hc : ¬ k0_cond1 (word c tb2 i xt2) (word c tb3 i xt3) = 1#1)
    (arg5 : Memref sig .tc .vmem S256x2816 .bf16) (harg5 : arg5.IsWhole) (arg6 : Memref sig .tc .vmem S1x2816x5632 .fp8e4m3) (harg6 : arg6.IsWhole)
    (arg7 : Memref sig .tc .vmem S1x1x5632 .f32) (harg7 : arg7.IsWhole) (arg8 : Memref sig .tc .vmem S256x2816 .fp8e4m3) (harg8 : arg8.IsWhole)
    (arg9 : Memref sig .tc .vmem S256x1 .f32) (harg9 : arg9.IsWhole)
    (f5 : BufTy.Contents (Elt F) arg5.view.ty) (f6 : BufTy.Contents (Elt F) arg6.view.ty) (f7 : BufTy.Contents (Elt F) arg7.view.ty)
    (f8 : BufTy.Contents (Elt F) arg8.view.ty) (f9 : BufTy.Contents (Elt F) arg9.view.ty)
    (f10 : BufTy.Contents (Elt F) sc0.view.ty) (f11 : BufTy.Contents (Elt F) sc1.view.ty) (f12 : BufTy.Contents (Elt F) sc2.view.ty)  :
    held c xt0 xt1 xt2 xt3 arg5 arg6 arg7 arg8 arg9 f5 f6 f7 f8 f9 f10 f11 f12
      ⊢ wp frame (wpE (defs₀ (F := F)) Variants.none c none) Set.univ
          (cc0_moe_gate_up i tb0 (Memref.isWhole_whole _) tb1 (Memref.isWhole_whole _) tb2 (Memref.isWhole_whole _) tb3 (Memref.isWhole_whole _)
            arg5 harg5 arg6 harg6 arg7 harg7 arg8 harg8 arg9 harg9 sc0 (Memref.isWhole_whole _) sc1 (Memref.isWhole_whole _) sc2 (Memref.isWhole_whole _))
          (fun _ => held c xt0 xt1 xt2 xt3 arg5 arg6 arg7 arg8 arg9 f5 f6 f7 f8 f9 f10 f11 f12) := by
  iintro ⟨T0, T1, T2, T3, H5, H6, H7, H8, H9, H10, H11, H12⟩
  sl_unfold [cc0_moe_gate_up]
  sl_exec
  sl_step
  sl_close

set_option maxHeartbeats 2000000 in
/-- A point whose item has rows. -/
def runLive (c : Dev nD) (i : grid0.Coords) (xt0 : TbBuf (F := F) c tb0) (xt1 : TbBuf (F := F) c tb1) (xt2 : TbBuf (F := F) c tb2) (xt3 : TbBuf (F := F) c tb3)
    (hc : k0_cond1 (word c tb2 i xt2) (word c tb3 i xt3) = 1#1)
    (arg5 : Memref sig .tc .vmem S256x2816 .bf16) (harg5 : arg5.IsWhole) (arg6 : Memref sig .tc .vmem S1x2816x5632 .fp8e4m3) (harg6 : arg6.IsWhole)
    (arg7 : Memref sig .tc .vmem S1x1x5632 .f32) (harg7 : arg7.IsWhole) (arg8 : Memref sig .tc .vmem S256x2816 .fp8e4m3) (harg8 : arg8.IsWhole)
    (arg9 : Memref sig .tc .vmem S256x1 .f32) (harg9 : arg9.IsWhole)
    (f5 : BufTy.Contents (Elt F) arg5.view.ty) (f6 : BufTy.Contents (Elt F) arg6.view.ty) (f7 : BufTy.Contents (Elt F) arg7.view.ty)
    (f8 : BufTy.Contents (Elt F) arg8.view.ty) (f9 : BufTy.Contents (Elt F) arg9.view.ty)
    (f10 : BufTy.Contents (Elt F) sc0.view.ty) (f11 : BufTy.Contents (Elt F) sc1.view.ty) (f12 : BufTy.Contents (Elt F) sc2.view.ty) :
    Σ' (L8 : List (View.Piece (Elt F) S256x2816 .fp8e4m3)), { L9 : List (View.Piece (Elt F) S256x1 .f32) //
    held c xt0 xt1 xt2 xt3 arg5 arg6 arg7 arg8 arg9 f5 f6 f7 f8 f9 f10 f11 f12
      ⊢ wp frame (wpE (defs₀ (F := F)) Variants.none c none) Set.univ
          (cc0_moe_gate_up i tb0 (Memref.isWhole_whole _) tb1 (Memref.isWhole_whole _) tb2 (Memref.isWhole_whole _) tb3 (Memref.isWhole_whole _)
            arg5 harg5 arg6 harg6 arg7 harg7 arg8 harg8 arg9 harg9 sc0 (Memref.isWhole_whole _) sc1 (Memref.isWhole_whole _) sc2 (Memref.isWhole_whole _))
          (fun _ => iprop(tbPt c tb0 xt0 ∗ tbPt c tb1 xt1 ∗ tbPt c tb2 xt2 ∗ tbPt c tb3 xt3
            ∗ raw c arg5 f5 ∗ raw c arg6 f6 ∗ raw c arg7 f7 ∗ raw c arg8 (arg8.view.writes (Elt F) f8 L8) ∗ raw c arg9 (arg9.view.writes (Elt F) f9 L9)
            ∗ any c sc0 ∗ any c sc1 ∗ any c sc2)) } := by
  refine ⟨?_, ?_, ?run⟩
  case run =>
    iintro ⟨T0, T1, T2, T3, H5, H6, H7, H8, H9, H10, H11, H12⟩
    sl_unfold [cc0_moe_gate_up]
    sl_exec_parts
    sl_step
    isplitl [T0]; · iexact T0
    isplitl [T1]; · iexact T1
    isplitl [T2]; · iexact T2
    isplitl [T3]; · iexact T3
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    iexists _; iexact H12

end Cert.KernelIdeal.Run
-- ==== Proof.IdealRegion.lean ====
/-
  The pipelined region of the kernel, run over its 288 grid points, for tables that keep every block inside its array: what is
  left in each staging buffer at a point is a relation `R` to what was found there, and the two obligations on `R` are on one
  point, whose item has rows (`hlive`) or has none (`hidle`).
-/
module

public import proofs.«01_k».proof.Proof.IdealRun

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations before the region, in order. -/
def ops : List (List (HloOp τ sig (Elt F))) :=
  [hostOps0, hostOps0_1, hostOps0_2, hostOps0_3, hostOps0_4, hostOps0_5, hostOps0_6, hostOps0_7, hostOps0_8, hostOps0_9, hostOps0_10,
   hostOps0_11, hostOps0_12, hostOps0_13, hostOps0_14]

/-- What a buffer holds when the region is entered. -/
def V (c : Dev nD) (b : Ref sig .tc) : Buf (Elt F) ((c : Thread nD τ).loc b) := StableHlo.after ops.flatten (fun b => m (c, b)) b

/-- The tables when the region is entered. -/
def tbl : pre0.Contents (Elt F) := fun k => V m 0 (pre0.ref k)

variable (hok : ok0 (tbl m))

/-- The tables as admissible contents. -/
def adm : (p : Fin 1) → (pcfgs (F := F) p).Adm := fun _ => ⟨tbl m, hok⟩

/-- The pipeline at the tables. -/
abbrev cfg : Pipeline.Cfg sig Λ₀ := Pipeline.pin (pcfgs (F := F)) (adm m hok) 0

/-- A family of staging buffers' contents. -/
abbrev Bufs : Type := (w : Fin (cfg m hok).W) → ((cfg m hok).win w).block.Idx → Elt F ((cfg m hok).win w).elt

/-- A relation between what a staging buffer held before and after the body, by window and point. -/
abbrev Rel : Type := (w : Fin (cfg m hok).W) → Fin (cfg m hok).N →
  (Y X : ((cfg m hok).win w).block.Idx → Elt F ((cfg m hok).win w).elt) → Prop

/-- The region's proof data at a relation. -/
def rdat (R : Rel m hok) (c : Dev nD) : RDat τ (Elt F) Unit ℕ (UR sig nD τ) ℕ (cfg m hok) c where
  A w := V m c (Pipeline.arrRef (cfg m hok).spec w)
  after := R
  Φ _ := iprop(Pipeline.ΦA (cfg m hok).spec c ∗ Pipeline.ΦT pre0 (tbl m) c)
  q _ := fullShare
  owed _ := 0

/-- The tables as the invariant holds them. -/
theorem PhiT0_eq (c : Dev nD) : (Pipeline.ΦT pre0 (tbl m) c : sProp 𝕄)
    = iprop(tbPt c tb0 (tbl m 0) ∗ tbPt c tb1 (tbl m 1) ∗ tbPt c tb2 (tbl m 2) ∗ tbPt c tb3 (tbl m 3)) := by
  unfold Pipeline.ΦT Pipeline.prefHeld
  rw [show (Finset.univ : Finset (Fin 4)) = insert 0 (insert 1 (insert 2 {3})) from by decide, bigSep_insert (by decide),
    bigSep_insert (by decide), bigSep_insert (by decide), bigSep_singleton]
  rfl

/-- The scratch buffers as the invariant holds them. -/
theorem PhiA0_eq (c : Dev nD) : (Pipeline.ΦA spec0 c : sProp 𝕄)
    = iprop(iprop(any c sc0 ∗ any c sc1 ∗ any c sc2) ∗ ∃ r, prngReg c r) := by
  unfold Pipeline.ΦA
  rw [scopedRest0_eq]
  simp only [any, raw, Memref.view_whole, View.set_whole]

/-- The current staging buffers. -/
abbrev st0 (t : Fin (cfg m hok).N) := spec0_0.stage ((cfg m hok).slots t 0)
abbrev st1 (t : Fin (cfg m hok).N) := spec0_1.stage ((cfg m hok).slots t 1)
abbrev st2 (t : Fin (cfg m hok).N) := spec0_2.stage ((cfg m hok).slots t 2)
abbrev st3 (t : Fin (cfg m hok).N) := spec0_3.stage ((cfg m hok).slots t 3)
abbrev st4 (t : Fin (cfg m hok).N) := spec0_4.stage ((cfg m hok).slots t 4)

/-- The item of a point has rows. -/
abbrev Live (c : Dev nD) (i : grid0.Coords) : Prop := k0_cond1 (word c tb2 i (tbl m 2)) (word c tb3 i (tbl m 3)) = 1#1

/-- The run of the body at a point whose item has rows. -/
abbrev live (c : Dev nD) (t : Fin (cfg m hok).N) (hc : Live m c (grid0.coords t)) := runLive (F := F) c (grid0.coords t) (tbl m 0) (tbl m 1) (tbl m 2) (tbl m 3) hc
    (st0 m hok t) (hstage0_0 _) (st1 m hok t) (hstage0_1 _) (st2 m hok t) (hstage0_2 _) (st3 m hok t) (hstage0_3 _) (st4 m hok t) (hstage0_4 _)

/-- The relation holds where the item has no rows. -/
def Idle (R : Rel m hok) (c : Dev nD) : Prop := ∀ (t : Fin (cfg m hok).N), ¬ Live m c (grid0.coords t) → ∀ Y : Bufs m hok, (∀ w, (rdat m hok R c).Finds w t (Y w)) → ∀ w, R w t (Y w) (Y w)

/-- The relation holds where the item has rows. -/
def Runs (R : Rel m hok) (c : Dev nD) : Prop := ∀ (t : Fin (cfg m hok).N) (hc : Live m c (grid0.coords t)) (Y : Bufs m hok), (∀ w, (rdat m hok R c).Finds w t (Y w)) →
  ∀ f5 f6 f7 f8 f9 f10 f11 f12, (st0 m hok t).view.read (Elt F) f5 = Y 0 → (st1 m hok t).view.read (Elt F) f6 = Y 1 → (st2 m hok t).view.read (Elt F) f7 = Y 2 →
    (st3 m hok t).view.read (Elt F) f8 = Y 3 → (st4 m hok t).view.read (Elt F) f9 = Y 4 →
    R 0 t (Y 0) (Y 0) ∧ R 1 t (Y 1) (Y 1) ∧ R 2 t (Y 2) (Y 2)
      ∧ R 3 t (Y 3) ((st3 m hok t).view.read (Elt F) ((st3 m hok t).view.writes (Elt F) f8 (live m hok c t hc f5 f6 f7 f8 f9 f10 f11 f12).1))
      ∧ R 4 t (Y 4) ((st4 m hok t).view.read (Elt F) ((st4 m hok t).view.writes (Elt F) f9 (live m hok c t hc f5 f6 f7 f8 f9 f10 f11 f12).2.1))

/-- The body at a point, as the pipeline calls it. -/
abbrev bodyAt (t : Fin (cfg m hok).N) : Prog (TpuEff nD τ sig (Elt F) Λ₀ .tc) PUnit :=
  cc0_moe_gate_up (grid0.coords t) tb0 (Memref.isWhole_whole _) tb1 (Memref.isWhole_whole _) tb2 (Memref.isWhole_whole _) tb3 (Memref.isWhole_whole _)
    (st0 m hok t) (hstage0_0 _) (st1 m hok t) (hstage0_1 _) (st2 m hok t) (hstage0_2 _) (st3 m hok t) (hstage0_3 _) (st4 m hok t) (hstage0_4 _)
    sc0 (Memref.isWhole_whole _) sc1 (Memref.isWhole_whole _) sc2 (Memref.isWhole_whole _)

theorem defs₀_row (t : Fin (cfg m hok).N) : defs₀ (F := F) .tc (cfg m hok).body ((cfg m hok).bodyArgs t ((cfg m hok).slots t)) = bodyAt m hok t := by
  unfold defs₀; rw [Defs.onTc_tc]

/-- The body at a point, opened. -/
theorem sound_body (R : Rel m hok) (c : Dev nD) (hi : Idle m hok R c) (hl : Runs m hok R c) (t : Fin (cfg m hok).N)
    (Y : Bufs m hok) (hY : ∀ w, (rdat m hok R c).Finds w t (Y w)) :
    iprop((rdat m hok R c).Φ t.castSucc ∗ (rdat m hok R c).owesAt () t.castSucc
      ∗ owns (c : Thread nD τ) (st0 m hok t) fullShare (Y 0) ∗ owns (c : Thread nD τ) (st1 m hok t) fullShare (Y 1) ∗ owns (c : Thread nD τ) (st2 m hok t) fullShare (Y 2)
      ∗ owns (c : Thread nD τ) (st3 m hok t) fullShare (Y 3) ∗ owns (c : Thread nD τ) (st4 m hok t) fullShare (Y 4))
    ⊢ wp frame (wpE (defs₀ (F := F)) Variants.none c none) Set.univ (bodyAt m hok t) (fun _ =>
      iprop((rdat m hok R c).Φ t.succ ∗ (rdat m hok R c).owesAt () t.succ
      ∗ (∃ X, ⌜R 0 t (Y 0) X⌝ ∗ owns (c : Thread nD τ) (st0 m hok t) fullShare X)
      ∗ (∃ X, ⌜R 1 t (Y 1) X⌝ ∗ owns (c : Thread nD τ) (st1 m hok t) fullShare X)
      ∗ (∃ X, ⌜R 2 t (Y 2) X⌝ ∗ owns (c : Thread nD τ) (st2 m hok t) fullShare X)
      ∗ (∃ X, ⌜R 3 t (Y 3) X⌝ ∗ owns (c : Thread nD τ) (st3 m hok t) fullShare X)
      ∗ (∃ X, ⌜R 4 t (Y 4) X⌝ ∗ owns (c : Thread nD τ) (st4 m hok t) fullShare X))) := by
  rw [show (rdat m hok R c).Φ t.succ = (rdat m hok R c).Φ t.castSucc from rfl,
    show (rdat m hok R c).owesAt () t.succ = (rdat m hok R c).owesAt () t.castSucc from rfl,
    show (rdat m hok R c).Φ t.castSucc = iprop(Pipeline.ΦA spec0 c ∗ Pipeline.ΦT pre0 (tbl m) c) from rfl, PhiT0_eq, PhiA0_eq]
  unfold owns
  iintro ⟨⟨⟨⟨⟨%f10, H10⟩, ⟨%f11, H11⟩, ⟨%f12, H12⟩⟩, HG⟩, ⟨T0, T1, T2, T3⟩⟩, HO, ⟨%f5, %e5, H5⟩, ⟨%f6, %e6, H6⟩, ⟨%f7, %e7, H7⟩, ⟨%f8, %e8, H8⟩, ⟨%f9, %e9, H9⟩⟩
  by_cases hc : Live m c (grid0.coords t)
  · obtain ⟨r0, r1, r2, r3, r4⟩ := hl t hc Y hY f5 f6 f7 f8 f9 f10 f11 f12 e5 e6 e7 e8 e9
    iapply (wp_wand_r Idealize.ShloMosaic.frame (wpE (defs₀ (F := F)) Variants.none (c : Thread nD τ) none) Set.univ)
    isplitl [T0 T1 T2 T3 H5 H6 H7 H8 H9 H10 H11 H12]
    · iapply (live m hok c t hc f5 f6 f7 f8 f9 f10 f11 f12).2.2
      sl_close
    iintro %_ ⟨T0, T1, T2, T3, H5, H6, H7, H8, H9, H10, H11, H12⟩
    isplitl [T0 T1 T2 T3 H10 H11 H12 HG]
    · isplitl [H10 H11 H12 HG]
      · isplitl [H10 H11 H12]
        · isplitl [H10]; · iexact H10
          isplitl [H11]; · iexact H11
          iexact H12
        iexact HG
      isplitl [T0]; · iexact T0
      isplitl [T1]; · iexact T1
      isplitl [T2]; · iexact T2
      iexact T3
    isplitl [HO]; · iexact HO
    isplitl [H5]
    · iexists (Y 0); isplitr; · ipureintro; exact r0
      iexists f5; isplitr; · ipureintro; exact e5
      iexact H5
    isplitl [H6]
    · iexists (Y 1); isplitr; · ipureintro; exact r1
      iexists f6; isplitr; · ipureintro; exact e6
      iexact H6
    isplitl [H7]
    · iexists (Y 2); isplitr; · ipureintro; exact r2
      iexists f7; isplitr; · ipureintro; exact e7
      iexact H7
    isplitl [H8]
    · iexists _; isplitr; · ipureintro; exact r3
      iexists _; isplitr; · ipureintro; rfl
      iexact H8
    iexists _; isplitr; · ipureintro; exact r4
    iexists _; isplitr; · ipureintro; rfl
    iexact H9
  · have r := hi t hc Y hY
    iapply (wp_wand_r Idealize.ShloMosaic.frame (wpE (defs₀ (F := F)) Variants.none (c : Thread nD τ) none) Set.univ)
    isplitl [T0 T1 T2 T3 H5 H6 H7 H8 H9 H10 H11 H12]
    · iapply (runIdle (F := F) c (grid0.coords t) (tbl m 0) (tbl m 1) (tbl m 2) (tbl m 3) hc
        (st0 m hok t) (hstage0_0 _) (st1 m hok t) (hstage0_1 _) (st2 m hok t) (hstage0_2 _) (st3 m hok t) (hstage0_3 _) (st4 m hok t) (hstage0_4 _) f5 f6 f7 f8 f9 f10 f11 f12)
      sl_close
    iintro %_ ⟨T0, T1, T2, T3, H5, H6, H7, H8, H9, H10, H11, H12⟩
    isplitl [T0 T1 T2 T3 H10 H11 H12 HG]
    · isplitl [H10 H11 H12 HG]
      · isplitl [H10 H11 H12]
        · isplitl [H10]; · iexists _; iexact H10
          isplitl [H11]; · iexists _; iexact H11
          iexists _; iexact H12
        iexact HG
      isplitl [T0]; · iexact T0
      isplitl [T1]; · iexact T1
      isplitl [T2]; · iexact T2
      iexact T3
    isplitl [HO]; · iexact HO
    isplitl [H5]
    · iexists (Y 0); isplitr; · ipureintro; exact r 0
      iexists f5; isplitr; · ipureintro; exact e5
      iexact H5
    isplitl [H6]
    · iexists (Y 1); isplitr; · ipureintro; exact r 1
      iexists f6; isplitr; · ipureintro; exact e6
      iexact H6
    isplitl [H7]
    · iexists (Y 2); isplitr; · ipureintro; exact r 2
      iexists f7; isplitr; · ipureintro; exact e7
      iexact H7
    isplitl [H8]
    · iexists (Y 3); isplitr; · ipureintro; exact r 3
      iexists f8; isplitr; · ipureintro; exact e8
      iexact H8
    iexists (Y 4); isplitr; · ipureintro; exact r 4
    iexists f9; isplitr; · ipureintro; exact e9
    iexact H9

/-- The library's body obligation. -/
theorem body_obligation (R : Rel m hok) (c : Dev nD) (hi : Idle m hok R c) (hl : Runs m hok R c) :
    (rdat m hok R c).BodyObligation (defs₀ (F := F)) Variants.none () Set.univ := fun t Y hY => by
  rw [bigSep_W0, bigSep_W0, defs₀_row]
  exact sound_body m hok R c hi hl t Y hY

theorem ops_sub : (ops : List (List (HloOp τ sig (Elt F)))).Forall fun l => l.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub,
    hostOps0_10_sub, hostOps0_11_sub, hostOps0_12_sub, hostOps0_13_sub, hostOps0_14_sub⟩

theorem ops_fresh : (ops : List (List (HloOp τ sig (Elt F)))).Forall fun l => l.Forall fun op => op.fresh = ∅ := by
  unfold ops
  simp only [List.Forall]
  repeat' constructor

/-- @main up to the region. -/
theorem hmain : Pipeline.HMainP (Ix := Unit) (Name := ℕ) (U := UR sig nD τ) (Lvl := ℕ) (pcfgs (F := F)) 0 defs₀ Variants.none m (main (F := F)) (V m) :=
  Pipeline.hmainP_prefixes (pcfgs (F := F)) 0 defs₀ Variants.none m main ops ops_sub ops_fresh fun c => main_chain c

-- the theorem's implicit arguments are found by unifying its conclusion with the statement, which may have to unfold plain definitions
set_option backward.isDefEq.respectTransparency.types false in
/-- The run of @main: the arrays hold what the write-backs may have left, every other buffer what it held when the region was entered. -/
theorem run_main (R : Rel m hok) (hi : ∀ c, Idle m hok R c) (hl : ∀ c, Runs m hok R c) :
    θ_run defs (onTc (τ := τ) (main (F := F))) (s₀ m ρ)
      (fun r => RDat.FramePost (cfg m hok) (rdat m hok R) (V m) r ∧ r.2.sem = fun _ => 0) :=
  RDat.θ_run_frameP (Q' := _) (pcfgs (F := F)) (adm m hok) (0 : Fin 1) launch0 defs₀ Variants.none (rdat m hok R) m ρ main
    (hbody := fun c => body_obligation m hok R c (hi c) (hl c)) (hshare := fun c w => by unfold RDat.share; split <;> rfl)
    (howed := fun _ _ => rfl) (V := V m) (hmain := hmain m) (hA := fun _ _ => rfl)
    (hpf := fun c k => by rw [Subsingleton.elim c 0]; rfl) (hΦ := fun _ _ => rfl)

end Cert.KernelIdeal.Run
-- ==== Proof.IdealTables.lean ====
/-
  The tables of the kernel as its host operations leave them: the plan of the work items over words, applied to the counts.
  The operations are read stretch by stretch, each on any contents.
-/
module

public import proofs.«01_k».proof.Proof.IdealRegion
public import proofs.«01_k».proof.Proof.PlanWords
public import Idealize.ShloMosaic.Lib.StableHlo.RunRead

@[expose] public section

set_option maxRecDepth 16384
set_option maxHeartbeats 2000000

noncomputable section

namespace Cert.KernelIdeal.Run

open Cert.KernelIdeal Cert.KernelIdeal.Gen
open Idealize.ShloMosaic Idealize.ShloMosaic.TcCoe Idealize.ShloMosaic.Tactic

variable {F : FTy → Type} [FloatOps F]

/-! ## What each stretch leaves alone -/

theorem skip0 (W : Valuation τ sig (Elt F)) {r : Ref sig .tc} (h : r ∉ ([main_call0_call0_c, main_call0_call0_v0, main_v0] : List (Ref sig .tc))) :
    StableHlo.after hostOps0 W (Proc.devRef .tc r) = W (Proc.devRef .tc r) :=
  StableHlo.after_unwritten _ rfl h W
theorem skip1 (W : Valuation τ sig (Elt F)) {r : Ref sig .tc} (h : r ∉ ([main_v1, main_c] : List (Ref sig .tc))) :
    StableHlo.after hostOps0_1 W (Proc.devRef .tc r) = W (Proc.devRef .tc r) :=
  StableHlo.after_unwritten _ rfl h W
theorem skip2 (W : Valuation τ sig (Elt F)) {r : Ref sig .tc} (h : r ∉ ([main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v2] : List (Ref sig .tc))) :
    StableHlo.after hostOps0_2 W (Proc.devRef .tc r) = W (Proc.devRef .tc r) :=
  StableHlo.after_unwritten _ rfl h W
theorem skip3 (W : Valuation τ sig (Elt F)) {r : Ref sig .tc} (h : r ∉ ([main_c_0, main_v3, main_v4, main_c_1, main_v5, main_v6, main_c_2, main_v7, main_v8, main_c_3] : List (Ref sig .tc))) :
    StableHlo.after hostOps0_3 W (Proc.devRef .tc r) = W (Proc.devRef .tc r) :=
  StableHlo.after_unwritten _ rfl h W
theorem skip4 (W : Valuation τ sig (Elt F)) {r : Ref sig .tc} (h : r ∉ ([main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v9] : List (Ref sig .tc))) :
    StableHlo.after hostOps0_4 W (Proc.devRef .tc r) = W (Proc.devRef .tc r) :=
  StableHlo.after_unwritten _ rfl h W
theorem skip5 (W : Valuation τ sig (Elt F)) {r : Ref sig .tc} (h : r ∉ ([main_v10, main_c_4] : List (Ref sig .tc))) :
    StableHlo.after hostOps0_5 W (Proc.devRef .tc r) = W (Proc.devRef .tc r) :=
  StableHlo.after_unwritten _ rfl h W
theorem skip6 (W : Valuation τ sig (Elt F)) {r : Ref sig .tc} (h : r ∉ ([main_call3_v0, main_call3_v1, main_v11] : List (Ref sig .tc))) :
    StableHlo.after hostOps0_6 W (Proc.devRef .tc r) = W (Proc.devRef .tc r) :=
  StableHlo.after_unwritten _ rfl h W
theorem skip7 (W : Valuation τ sig (Elt F)) {r : Ref sig .tc} (h : r ∉ ([main_call4_call0_c, main_call4_call0_v0, main_v12] : List (Ref sig .tc))) :
    StableHlo.after hostOps0_7 W (Proc.devRef .tc r) = W (Proc.devRef .tc r) :=
  StableHlo.after_unwritten _ rfl h W
theorem skip8 (W : Valuation τ sig (Elt F)) {r : Ref sig .tc} (h : r ∉ ([main_v13, main_v14, main_v15, main_v16, main_v17, main_c_5, main_v18, main_v19, main_v20, main_v21, main_v22, main_v23, main_v24, main_v25, main_v26, main_c_6, main_v27, main_c_7, main_v28, main_v29, main_c_8, main_v30, main_v31, main_v32, main_v33, main_v34, main_v35, main_v36, main_c_9, main_v37, main_v38, main_c_10, main_v39, main_v40, main_v41, main_v42, main_v43, main_v44, main_c_11, main_v45, main_v46, main_c_12, main_v47, main_v48, main_v49, main_v50, main_v51, main_c_13, main_v52, main_v53, main_v54, main_c_14, main_c_15] : List (Ref sig .tc))) :
    StableHlo.after hostOps0_8 W (Proc.devRef .tc r) = W (Proc.devRef .tc r) :=
  StableHlo.after_unwritten _ rfl h W
theorem skip9 (W : Valuation τ sig (Elt F)) {r : Ref sig .tc} (h : r ∉ ([main_call5_v0, main_call5_v1, main_call5_v2, main_call5_v3, main_call5_v4, main_v55] : List (Ref sig .tc))) :
    StableHlo.after hostOps0_9 W (Proc.devRef .tc r) = W (Proc.devRef .tc r) :=
  StableHlo.after_unwritten _ rfl h W
theorem skip10 (W : Valuation τ sig (Elt F)) {r : Ref sig .tc} (h : r ∉ ([main_c_16, main_v56, main_v57, main_c_17, main_v58, main_v59, main_v60, main_v61, main_v62, main_c_18, main_v63, main_v64, main_v65, main_c_19, main_c_20] : List (Ref sig .tc))) :
    StableHlo.after hostOps0_10 W (Proc.devRef .tc r) = W (Proc.devRef .tc r) :=
  StableHlo.after_unwritten _ rfl h W
theorem skip11 (W : Valuation τ sig (Elt F)) {r : Ref sig .tc} (h : r ∉ ([main_call6_v0, main_call6_v1, main_call6_v2, main_call6_v3, main_call6_v4, main_v66] : List (Ref sig .tc))) :
    StableHlo.after hostOps0_11 W (Proc.devRef .tc r) = W (Proc.devRef .tc r) :=
  StableHlo.after_unwritten _ rfl h W
theorem skip12 (W : Valuation τ sig (Elt F)) {r : Ref sig .tc} (h : r ∉ ([main_c_21] : List (Ref sig .tc))) :
    StableHlo.after hostOps0_12 W (Proc.devRef .tc r) = W (Proc.devRef .tc r) :=
  StableHlo.after_unwritten _ rfl h W
theorem skip13 (W : Valuation τ sig (Elt F)) {r : Ref sig .tc} (h : r ∉ ([main_call7_v0, main_call7_v1, main_v67] : List (Ref sig .tc))) :
    StableHlo.after hostOps0_13 W (Proc.devRef .tc r) = W (Proc.devRef .tc r) :=
  StableHlo.after_unwritten _ rfl h W
theorem skip14 (W : Valuation τ sig (Elt F)) {r : Ref sig .tc} (h : r ∉ ([main_v68] : List (Ref sig .tc))) :
    StableHlo.after hostOps0_14 W (Proc.devRef .tc r) = W (Proc.devRef .tc r) :=
  StableHlo.after_unwritten _ rfl h W

/-! ## What each stretch computes -/

variable (W : Valuation τ sig (Elt F))

theorem s0_v0 : StableHlo.after hostOps0 W (Proc.devRef .tc main_v0) = PlanWords.cum (W (Proc.devRef .tc main_arg1)) := by
  after_reads_simp
  simp only [StableHlo.TRef.ofBuf_toBuf, StableHlo.TRef.ofBuf, StableHlo.TRef.toBuf, cast_eq]
  unfold PlanWords.cum
  rfl
theorem s1_v1 : StableHlo.after hostOps0_1 W (Proc.devRef .tc main_v1) = PlanWords.sub32 (W (Proc.devRef .tc main_v0)) (W (Proc.devRef .tc main_arg1)) := by
  after_reads_simp
  rfl
theorem s1_c : StableHlo.after hostOps0_1 W (Proc.devRef .tc main_c) = constantI S_ 32 256#32 := by
  after_reads_simp
theorem s2_v2 : StableHlo.after hostOps0_2 W (Proc.devRef .tc main_v2) = Routing.pyDiv PlanWords.b32 (W (Proc.devRef .tc main_v1)) (W (Proc.devRef .tc main_c)) := by
  after_reads_simp
  simp only [StableHlo.TRef.ofBuf_toBuf]
  rfl
theorem s3_v4 : StableHlo.after hostOps0_3 W (Proc.devRef .tc main_v4) = PlanWords.posAt (W (Proc.devRef .tc main_arg1)) := by
  after_reads_simp
  rfl
theorem s3_v8 : StableHlo.after hostOps0_3 W (Proc.devRef .tc main_v8) = PlanWords.upAt (W (Proc.devRef .tc main_v0)) := by
  after_reads_simp
  rfl
theorem s3_c_3 : StableHlo.after hostOps0_3 W (Proc.devRef .tc main_c_3) = constantI S_ 32 256#32 := by
  after_reads_simp
theorem s4_v9 : StableHlo.after hostOps0_4 W (Proc.devRef .tc main_v9) = Routing.pyDiv PlanWords.b32 (W (Proc.devRef .tc main_v8)) (W (Proc.devRef .tc main_c_3)) := by
  after_reads_simp
  simp only [StableHlo.TRef.ofBuf_toBuf]
  rfl
theorem s5_v10 : StableHlo.after hostOps0_5 W (Proc.devRef .tc main_v10) = PlanWords.sub32 (W (Proc.devRef .tc main_v9)) (W (Proc.devRef .tc main_v2)) := by
  after_reads_simp
  rfl
theorem s5_c_4 : StableHlo.after hostOps0_5 W (Proc.devRef .tc main_c_4) = constantI S_ 32 0#32 := by
  after_reads_simp
theorem s6_v11 : StableHlo.after hostOps0_6 W (Proc.devRef .tc main_v11) = select ((W (Proc.devRef .tc main_v4)) : IVec S32 1) ((W (Proc.devRef .tc main_v10)) : IVec S32 32) (broadcastInDim S32 ![] bcast_S_S32 ((W (Proc.devRef .tc main_c_4)) : IVec S_ 32)) := by
  after_reads_simp
  simp only [StableHlo.TRef.ofBuf_toBuf]
  rfl
theorem s7_v12 : StableHlo.after hostOps0_7 W (Proc.devRef .tc main_v12) = PlanWords.cum (W (Proc.devRef .tc main_v11)) := by
  after_reads_simp
  simp only [StableHlo.TRef.ofBuf_toBuf, StableHlo.TRef.ofBuf, StableHlo.TRef.toBuf, cast_eq]
  unfold PlanWords.cum
  rfl
theorem s8_v17 : StableHlo.after hostOps0_8 W (Proc.devRef .tc main_v17) = PlanWords.liveAt (W (Proc.devRef .tc main_v12)) := by
  after_reads_simp
  rfl
theorem s8_v27 : StableHlo.after hostOps0_8 W (Proc.devRef .tc main_v27) = PlanWords.exAt (W (Proc.devRef .tc main_v12)) := by
  after_reads_simp
  rfl
theorem s8_v44 : StableHlo.after hostOps0_8 W (Proc.devRef .tc main_v44) = PlanWords.tileAt (W (Proc.devRef .tc main_v2)) (W (Proc.devRef .tc main_v11)) (W (Proc.devRef .tc main_v12)) := by
  after_reads_simp
  rfl
theorem s8_v54 : StableHlo.after hostOps0_8 W (Proc.devRef .tc main_v54) = PlanWords.relAt (PlanWords.exAt (W (Proc.devRef .tc main_v12))) (PlanWords.tileAt (W (Proc.devRef .tc main_v2)) (W (Proc.devRef .tc main_v11)) (W (Proc.devRef .tc main_v12))) (W (Proc.devRef .tc main_v1)) := by
  after_reads_simp
  rfl
theorem s8_c_14 : StableHlo.after hostOps0_8 W (Proc.devRef .tc main_c_14) = constantI S_ 32 0#32 := by
  after_reads_simp
theorem s8_c_15 : StableHlo.after hostOps0_8 W (Proc.devRef .tc main_c_15) = constantI S_ 32 256#32 := by
  after_reads_simp
theorem s9_v55 : StableHlo.after hostOps0_9 W (Proc.devRef .tc main_v55) = PlanWords.clipWith (W (Proc.devRef .tc main_c_14)) (W (Proc.devRef .tc main_c_15)) (W (Proc.devRef .tc main_v54)) := by
  after_reads_simp
  simp only [StableHlo.TRef.ofBuf_toBuf]
  rfl
theorem s10_v65 : StableHlo.after hostOps0_10 W (Proc.devRef .tc main_v65) = PlanWords.relAt (W (Proc.devRef .tc main_v27)) (W (Proc.devRef .tc main_v44)) (W (Proc.devRef .tc main_v0)) := by
  after_reads_simp
  rfl
theorem s10_c_19 : StableHlo.after hostOps0_10 W (Proc.devRef .tc main_c_19) = constantI S_ 32 0#32 := by
  after_reads_simp
theorem s10_c_20 : StableHlo.after hostOps0_10 W (Proc.devRef .tc main_c_20) = constantI S_ 32 256#32 := by
  after_reads_simp
theorem s11_v66 : StableHlo.after hostOps0_11 W (Proc.devRef .tc main_v66) = PlanWords.clipWith (W (Proc.devRef .tc main_c_19)) (W (Proc.devRef .tc main_c_20)) (W (Proc.devRef .tc main_v65)) := by
  after_reads_simp
  simp only [StableHlo.TRef.ofBuf_toBuf]
  rfl
theorem s12_c_21 : StableHlo.after hostOps0_12 W (Proc.devRef .tc main_c_21) = constantI S_ 32 0#32 := by
  after_reads_simp
theorem s13_v67 : StableHlo.after hostOps0_13 W (Proc.devRef .tc main_v67) = select ((W (Proc.devRef .tc main_v17)) : IVec S288 1) ((W (Proc.devRef .tc main_v66)) : IVec S288 32) (broadcastInDim S288 ![] bcast_S_S288 ((W (Proc.devRef .tc main_c_21)) : IVec S_ 32)) := by
  after_reads_simp
  simp only [StableHlo.TRef.ofBuf_toBuf]
  rfl
theorem s14_v68 : StableHlo.after hostOps0_14 W (Proc.devRef .tc main_v68) = shapeCast S32x1x5632 ((W (Proc.devRef .tc main_arg3)) : FVec F S32x5632 .f32) shapeCasts_S32x5632_S32x1x5632 := by
  after_reads_simp
  rfl

/-! ## The tables -/

variable (m : (ℓ : Loc nD τ sig) → Buf (Elt F) ℓ) (c : Dev nD)

/-- The contents at the region's entry, stretch by stretch. -/
theorem V_eq (b : Ref sig .tc) : V m c b = StableHlo.after hostOps0_14 (StableHlo.after hostOps0_13 (StableHlo.after hostOps0_12 (StableHlo.after hostOps0_11
    (StableHlo.after hostOps0_10 (StableHlo.after hostOps0_9 (StableHlo.after hostOps0_8 (StableHlo.after hostOps0_7 (StableHlo.after hostOps0_6
    (StableHlo.after hostOps0_5 (StableHlo.after hostOps0_4 (StableHlo.after hostOps0_3 (StableHlo.after hostOps0_2 (StableHlo.after hostOps0_1
    (StableHlo.after hostOps0 (fun b => m (c, b)))))))))))))))) (Proc.devRef .tc b) := by
  unfold V ops
  simp only [List.flatten_cons, List.flatten_nil, List.append_nil, StableHlo.after_append]

/-- The arguments are as they were, and the tables are the plan over words. -/
theorem V_all : (V m c main_arg0 = m (c, main_arg0) ∧ V m c main_arg1 = m (c, main_arg1) ∧ V m c main_arg2 = m (c, main_arg2)
      ∧ V m c main_arg3 = m (c, main_arg3))
    ∧ V m c main_v44 = PlanWords.tileW (m (c, main_arg1)) ∧ V m c main_v27 = PlanWords.exW (m (c, main_arg1))
    ∧ V m c main_v55 = PlanWords.loW (m (c, main_arg1)) ∧ V m c main_v67 = PlanWords.hiW (m (c, main_arg1))
    ∧ V m c main_v68 = shapeCast S32x1x5632 (m (c, main_arg3) : FVec F S32x5632 .f32) shapeCasts_S32x5632_S32x1x5632 := by
  simp only [V_eq]
  refine ⟨⟨?_, ?_, ?_, ?_⟩, ?_, ?_, ?_, ?_, ?_⟩
  all_goals
    repeat first
      | rw [s14_v68] | rw [skip14 _ (by decide)]
      | rw [s13_v67] | rw [skip13 _ (by decide)]
      | rw [s12_c_21] | rw [skip12 _ (by decide)]
      | rw [s11_v66] | rw [skip11 _ (by decide)]
      | rw [s10_v65] | rw [s10_c_19] | rw [s10_c_20] | rw [skip10 _ (by decide)]
      | rw [s9_v55] | rw [skip9 _ (by decide)]
      | rw [s8_v17] | rw [s8_v27] | rw [s8_v44] | rw [s8_v54] | rw [s8_c_14] | rw [s8_c_15] | rw [skip8 _ (by decide)]
      | rw [s7_v12] | rw [skip7 _ (by decide)]
      | rw [s6_v11] | rw [skip6 _ (by decide)]
      | rw [s5_v10] | rw [s5_c_4] | rw [skip5 _ (by decide)]
      | rw [s4_v9] | rw [skip4 _ (by decide)]
      | rw [s3_v4] | rw [s3_v8] | rw [s3_c_3] | rw [skip3 _ (by decide)]
      | rw [s2_v2] | rw [skip2 _ (by decide)]
      | rw [s1_v1] | rw [s1_c] | rw [skip1 _ (by decide)]
      | rw [s0_v0] | rw [skip0 _ (by decide)]
  all_goals try simp only [PlanWords.tileW, PlanWords.exW, PlanWords.loW, PlanWords.hiW, PlanWords.clip, PlanWords.clipAt, PlanWords.cend, PlanWords.count,
    PlanWords.countAt, PlanWords.first, PlanWords.starts, PlanWords.ends, PlanWords.k288, PlanWords.k32]
  all_goals rfl

end Cert.KernelIdeal.Run
-- ==== Proof.IdealLive.lean ====
/-
  The region's tables under the precondition: every block lies inside its array, and a point's item has rows exactly when the plan says so.
-/
module

public import proofs.«01_k».proof.Proof.IdealTables
public import proofs.«01_k».proof.Proof.Groups
public import Idealize.ShloMosaic.Lib.Affine

@[expose] public section

set_option maxRecDepth 16384

noncomputable section

namespace Cert.KernelIdeal.Run

open Cert.KernelIdeal Cert.KernelIdeal.Gen
open Idealize.ShloMosaic Idealize.ShloMosaic.TcCoe Idealize.ShloMosaic.ValueIdx
open Cert.Plan

variable {F : FTy → Type} [FloatOps F]
variable (m : (ℓ : Loc nD τ sig) → Buf (Elt F) ℓ)

/-- The counts in memory. -/
abbrev gs (c : Dev nD) : IVec (Routing.shape1 32) 32 := m (c, main_arg1)

/-- The counts as naturals. -/
def cn : ℕ → ℕ := Groups.cnt (gs m 0)

/-- The precondition, of the memory. -/
abbrev Pre : Prop := ∀ c : Dev nD, Pre_groups.fn (F := F) (m (c, main_arg0)) (m (c, main_arg1)) (m (c, main_arg2)) (m (c, main_arg3)) = fun _ => 1#1

variable (hp : Pre m)

include hp in
theorem cn_sum : P (cn m) 32 = 65536 := Groups.sum_cnt (hp 0)

theorem cn_word (e : Fin 32) : gs m 0 (ix1 e) = BitVec.ofNat 32 (cn m e.val) := Groups.cnt_word _ e

/-- A grid point's number. -/
abbrev pt (i : grid0.Coords) : Fin 288 := i 0

include hp in
theorem tbl_tile (i : Fin 288) : (tbl m 0 : IVec S288 32) (ix1 i) = BitVec.ofNat 32 (tile (cn m) i.val) :=
  (congrFun (V_all m 0).2.1 (ix1 i)).trans (PlanWords.tileW_ap _ _ (cn_word m) (cn_sum m hp) i)
include hp in
theorem tbl_ex (i : Fin 288) : (tbl m 1 : IVec S288 32) (ix1 i) = BitVec.ofNat 32 (ex (cn m) i.val) :=
  (congrFun (V_all m 0).2.2.1 (ix1 i)).trans (PlanWords.exW_ap _ _ (cn_word m) (cn_sum m hp) i)
include hp in
theorem tbl_lo (i : Fin 288) : (tbl m 2 : IVec S288 32) (ix1 i) = BitVec.ofNat 32 (lo (cn m) i.val) :=
  (congrFun (V_all m 0).2.2.2.1 (ix1 i)).trans (PlanWords.loW_ap _ _ (cn_word m) (cn_sum m hp) i)
include hp in
theorem tbl_hi (i : Fin 288) : (tbl m 3 : IVec S288 32) (ix1 i) = BitVec.ofNat 32 (hi (cn m) i.val) :=
  (congrFun (V_all m 0).2.2.2.2.1 (ix1 i)).trans (PlanWords.hiW_ap _ _ (cn_word m) (cn_sum m hp) i)

/-- The index at which a point reads a table. -/
theorem pt_emb (i : grid0.Coords) (k : S1.Idx) : (Rect.unit (s := S288) (k0_off1 i) S1.size (k0_off1_inb i)).emb k = ix1 (pt i) := by
  funext a
  match a with
  | ⟨0, _⟩ =>
    apply Fin.ext
    have hk : (k 0).val = 0 := by have := (k 0).isLt; change (k 0).val < 1 at this; omega
    have hi := (pt i).isLt
    show (BitVec.ofNat 32 (pt i).val).toNat + 1 * (k 0).val = (pt i).val
    rw [hk, BitVec.toNat_ofNat, Nat.mod_eq_of_lt (by omega)]
    omega

theorem word_eq (c : Dev nD) (i : grid0.Coords) (x : IVec S288 32) : word (F := F) c tb2 i x = x (ix1 (pt i)) := congrArg x (pt_emb i _)
theorem word_eq3 (c : Dev nD) (i : grid0.Coords) (x : IVec S288 32) : word (F := F) c tb3 i x = x (ix1 (pt i)) := congrArg x (pt_emb i _)

theorem cond1_iff (a b : BitVec 32) : k0_cond1 a b = 1#1 ↔ IntOp.cmpi .sgt b a = 1#1 := by
  unfold k0_cond1
  show IntOp.cmpi .ne (BitVec.setWidth 32 (IntOp.cmpi .sgt b a)) 0#32 = 1#1 ↔ _
  generalize IntOp.cmpi .sgt b a = x
  revert x; decide

include hp in
/-- A point's item has rows when the point is below the number of items. -/
theorem live_iff (c : Dev nD) (i : grid0.Coords) : Live m c i ↔ (pt i).val < total (cn m) := by
  have hl := lo_le (cn m) (pt i).val
  have hh := hi_le (cn m) (pt i).val
  show k0_cond1 (word c tb2 i (tbl m 2)) (word c tb3 i (tbl m 3)) = 1#1 ↔ _
  rw [show word c tb2 i (tbl m 2) = _ from (word_eq c i (tbl m 2)).trans (tbl_lo m hp (pt i)),
    show word c tb3 i (tbl m 3) = _ from (word_eq3 c i (tbl m 3)).trans (tbl_hi m hp (pt i)), cond1_iff,
    WordCmp.cmpi_sgt_ofNat_eq_one_iff (w := 32) (by omega) (by omega)]
  exact lo_lt_hi_iff (cn m) (cn_sum m hp) _

include hp in
theorem ix_tile (i : grid0.Coords) : cc0_transform_0 k0_off1_inb numel1_S1 (tbl m) i = ![tile (cn m) (pt i).val, 0] := by
  have h := tile_lt (cn m) (cn_sum m hp) (pt i).val
  have e : (tbl m 0 : IVec S288 32) ((Rect.unit (s := S288) (k0_off1 i) S1.size (k0_off1_inb i)).emb (Shape.Idx.first (numel1_S1.symm ▸ Nat.one_pos)))
      = BitVec.ofNat 32 (tile (cn m) (pt i).val) := (congrArg _ (pt_emb i _)).trans (tbl_tile m hp (pt i))
  have e' := congrArg BitVec.toNat e
  rw [BitVec.toNat_ofNat, Nat.mod_eq_of_lt (by omega)] at e'
  funext a
  match a with
  | ⟨0, _⟩ => exact e'
  | ⟨1, _⟩ => rfl

include hp in
theorem ix_ex (i : grid0.Coords) : cc0_transform_1 k0_off1_inb numel1_S1 (tbl m) i = ![ex (cn m) (pt i).val, 0, 0] := by
  have h := ex_lt (cn m) (cn_sum m hp) (pt i).val
  have e : (tbl m 1 : IVec S288 32) ((Rect.unit (s := S288) (k0_off1 i) S1.size (k0_off1_inb i)).emb (Shape.Idx.first (numel1_S1.symm ▸ Nat.one_pos)))
      = BitVec.ofNat 32 (ex (cn m) (pt i).val) := (congrArg _ (pt_emb i _)).trans (tbl_ex m hp (pt i))
  have e' := congrArg BitVec.toNat e
  rw [BitVec.toNat_ofNat, Nat.mod_eq_of_lt (by omega)] at e'
  funext a
  match a with
  | ⟨0, _⟩ => exact e'
  | ⟨1, _⟩ => rfl
  | ⟨2, _⟩ => rfl

include hp in
/-- Every block lies inside its array. -/
theorem ok : ok0 (tbl m) := by
  have ht := fun i : grid0.Coords => tile_lt (cn m) (cn_sum m hp) (pt i).val
  have he := fun i : grid0.Coords => ex_lt (cn m) (cn_sum m hp) (pt i).val
  have h0 : ∀ (i : grid0.Coords) a, (cc0_transform_0 k0_off1_inb numel1_S1 (tbl m) i a + 1) * S256x2816.size a ≤ S65536x2816.size a := fun i a => by
    rw [ix_tile m hp]
    match a with
    | ⟨0, _⟩ => show (tile (cn m) (pt i).val + 1) * 256 ≤ 65536; have := ht i; omega
    | ⟨1, _⟩ => show (0 + 1) * 2816 ≤ 2816; omega
  have h1 : ∀ (i : grid0.Coords) a, (cc0_transform_1 k0_off1_inb numel1_S1 (tbl m) i a + 1) * S1x2816x5632.size a ≤ S32x2816x5632.size a := fun i a => by
    rw [ix_ex m hp]
    match a with
    | ⟨0, _⟩ => show (ex (cn m) (pt i).val + 1) * 1 ≤ 32; have := he i; omega
    | ⟨1, _⟩ => show (0 + 1) * 2816 ≤ 2816; omega
    | ⟨2, _⟩ => show (0 + 1) * 5632 ≤ 5632; omega
  have h2 : ∀ (i : grid0.Coords) a, (cc0_transform_2 k0_off1_inb numel1_S1 (tbl m) i a + 1) * S1x1x5632.size a ≤ S32x1x5632.size a := fun i a => by
    rw [show cc0_transform_2 k0_off1_inb numel1_S1 (tbl m) i = _ from ix_ex m hp i]
    match a with
    | ⟨0, _⟩ => show (ex (cn m) (pt i).val + 1) * 1 ≤ 32; have := he i; omega
    | ⟨1, _⟩ => show (0 + 1) * 1 ≤ 1; omega
    | ⟨2, _⟩ => show (0 + 1) * 5632 ≤ 5632; omega
  have h4 : ∀ (i : grid0.Coords) a, (cc0_transform_4 k0_off1_inb numel1_S1 (tbl m) i a + 1) * S256x1.size a ≤ S65536x1.size a := fun i a => by
    rw [show cc0_transform_4 k0_off1_inb numel1_S1 (tbl m) i = _ from ix_tile m hp i]
    match a with
    | ⟨0, _⟩ => show (tile (cn m) (pt i).val + 1) * 256 ≤ 65536; have := ht i; omega
    | ⟨1, _⟩ => show (0 + 1) * 1 ≤ 1; omega
  refine ⟨fun i => ⟨h0 i, .inr ?_⟩, fun i => ⟨h1 i, .inr ?_⟩, fun i => ⟨h2 i, .inl rfl⟩, fun i => ⟨h0 i, .inr ?_⟩, fun i => ⟨h4 i, .inl rfl⟩⟩
  · exact Affine.block_words_dvd (by decide) (by decide)
  · exact Affine.block_words_rows (by decide) rfl
  · exact Affine.block_words_dvd (by decide) (by decide)

end Cert.KernelIdeal.Run
-- ==== Proof.IdealQuiet.lean ====
/-
  The kernel runs, and leaves its arguments and the semaphores as it found them.
-/
module

public import proofs.«01_k».proof.Proof.IdealLive
public import Idealize.ShloMosaic.Lib.StableHlo.RunHlo

@[expose] public section

set_option maxRecDepth 16384

noncomputable section

namespace Cert.KernelIdeal.Run

open Cert.KernelIdeal Cert.KernelIdeal.Gen
open Idealize.ShloMosaic Idealize.ShloMosaic.TcCoe Idealize.SL.Sem
open Idealize.ShloMosaic.Pipeline (RDat)

variable {F : FTy → Type} [FloatOps F]
variable (m : (ℓ : Loc nD τ sig) → Buf (Elt F) ℓ) (ρ : Dev nD → PrngReg)

/-- The arguments after a run of the region, whatever the relation on the outputs. -/
theorem args_of_post (hok : ok0 (tbl m)) (R : Rel m hok) (r : PUnit × MemSt nD τ sig (Elt F))
    (h : RDat.FramePost (cfg m hok) (rdat m hok R) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have hv := (V_all m c).1
  refine ⟨?_, ?_, ?_, ?_⟩
  · exact (RDat.FramePost.arr_in h c 0 rfl).trans hv.1
  · exact ((h c).2 main_arg1 (Pipeline.mem_restRefs_of main_arg1 rfl (show ∀ w, (spec0 w).arr.view.ref ≠ main_arg1 by decide))).trans hv.2.1
  · exact (RDat.FramePost.arr_in h c 1 rfl).trans hv.2.2.1
  · exact ((h c).2 main_arg3 (Pipeline.mem_restRefs_of main_arg3 rfl (show ∀ w, (spec0 w).arr.view.ref ≠ main_arg3 by decide))).trans hv.2.2.2

/-- The kernel runs and is quiet. -/
theorem quiet (hp : Pre m) :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine θ_run_mono (run_main m ρ (ok m hp) (fun _ _ _ _ => True) (fun c => ?_) (fun c => ?_))
    fun r h => ⟨args_of_post m (ok m hp) (fun _ _ _ _ => True) r h.1, h.2⟩
  · intro t _ Y _ w
    exact trivial
  · intro t hc Y hY f5 f6 f7 f8 f9 f10 f11 f12 _ _ _ _ _
    exact ⟨trivial, trivial, trivial, trivial, trivial⟩

end Cert.KernelIdeal.Run
-- ==== Proof.PlanCover.lean ====
/-
  How far down its tile a point's rows reach, and that every tile is finished: at the last point of a tile all its 256 rows are done.
-/
module

public import proofs.«01_k».proof.Proof.PlanNat

@[expose] public section

namespace Cert.Plan

variable (c : ℕ → ℕ) (hs : P c 32 = 65536)

/-- The rows of the tile that are done after a point. -/
def full (i : ℕ) : ℕ := if i < total c then hi c i else 256

include hs

/-- A point without an item follows the end of the last tile. -/
theorem dead_step {i : ℕ} (h : ¬ i + 1 < total c) : tile c (i + 1) = tile c i ∧ full c i = 256 := by
  have hp := total_pos c hs
  by_cases hi' : i < total c
  · have e : total c - 1 = i := by omega
    have h1 := last_row c hs
    have h2 := tile_lt c hs i
    have h3 := hi_le c i
    have h4 := dead_tile c h
    rw [e] at h1 h4
    exact ⟨h4, by unfold full; rw [if_pos hi']; omega⟩
  · exact ⟨(dead_tile c h).trans (dead_tile c hi').symm, by unfold full; rw [if_neg hi']⟩

/-- The next item starts where this one stops, in its tile or at the top of the next. -/
theorem live_step {i : ℕ} (h : i + 1 < total c) :
    (tile c (i + 1) = tile c i ∧ lo c (i + 1) = full c i) ∨ (tile c (i + 1) = tile c i + 1 ∧ lo c (i + 1) = 0 ∧ full c i = 256) := by
  have h1 := next_row c hs h
  have h2 := (live_spec c hs h).1
  have h3 := hi_le c (i + 1)
  have h4 := hi_le c i
  have h5 := (live_spec c hs (show i < total c by omega)).1
  have h6 : full c i = hi c i := by unfold full; rw [if_pos (by omega)]
  omega

theorem lo_first : lo c 0 = 0 := by
  have := first_row c hs; omega

/-- At the last point of a tile all its rows are done. -/
theorem full_last {i : ℕ} (h : i + 1 = 288 ∨ tile c (i + 1) ≠ tile c i) : full c i = 256 := by
  have := total_le c hs
  by_cases hl : i + 1 < total c
  · have := live_step c hs hl
    omega
  · exact (dead_step c hs hl).2

/-- Every tile has a last point. -/
theorem tile_last {T : ℕ} (hT : T < 256) : ∃ u, u < 288 ∧ tile c u = T ∧ (u + 1 = 288 ∨ tile c (u + 1) ≠ tile c u) := by
  have h0 : tile c 0 ≤ T := by have := first_row c hs; omega
  by_contra hn
  have key : ∀ u, u < 288 → tile c u ≤ T := by
    intro u
    induction u with
    | zero => exact fun _ => h0
    | succ u ih =>
      intro hu
      have hu' := ih (by omega)
      by_contra hlt
      refine hn ⟨u, by omega, ?_, Or.inr (by omega)⟩
      by_cases hl : u + 1 < total c
      · have := live_step c hs hl; omega
      · have := (dead_step c hs hl).1; omega
  have hl := key 287 (by omega)
  have ht := total_le c hs
  have hd : tile c 287 = tile c (total c - 1) := dead_tile c (by omega)
  have := last_row c hs
  have := hi_le c (total c - 1)
  exact hn ⟨287, by omega, by omega, Or.inl rfl⟩

end Cert.Plan
-- ==== Proof.Scale.lean ====
/-
  The power-of-two scale of a quantised row, as the kernel finds it (it counts the powers of two not above `t` and builds the scale and
  its inverse from words) and as the reference states it (the least power of two above `t`, and one over it). They are the same.
-/
module

public import Idealize.ShloMosaic.PureOps.Ideal

@[expose] public section

set_option maxRecDepth 16384

noncomputable section

namespace Cert.Scale

open Idealize.ShloMosaic

/-- The float whose exponent field is `k` and whose other bits are zero. -/
def pw (k : ℕ) : EReal := Ideal.ofBits .f32 (BitVec.ofNat 32 k <<< 23)

theorem pw_zero : pw 0 = 0 := by
  simp [pw, Ideal.ofBits, Ideal.ieee]

theorem pw_top : pw 255 = ⊤ := by
  simp [pw, Ideal.ofBits, Ideal.ieee]

theorem pw_eq (k : ℕ) (h1 : 1 ≤ k) (h2 : k ≤ 254) : pw k = (((2 : ℝ) ^ ((k : ℤ) - 127) : ℝ) : EReal) := by
  have hx : (BitVec.ofNat 32 k <<< 23 : BitVec 32).toNat = k * 2 ^ 23 := by
    rw [BitVec.toNat_shiftLeft, BitVec.toNat_ofNat, Nat.shiftLeft_eq]; omega
  have e1 : ((BitVec.ofNat 32 k <<< 23 : BitVec 32).extractLsb' 23 8).toNat = k := by
    rw [BitVec.extractLsb'_toNat, hx, Nat.shiftRight_eq_div_pow]; omega
  have e2 : ((BitVec.ofNat 32 k <<< 23 : BitVec 32).extractLsb' 0 23).toNat = 0 := by
    rw [BitVec.extractLsb'_toNat, hx, Nat.shiftRight_eq_div_pow]; omega
  have e3 : ((BitVec.ofNat 32 k <<< 23 : BitVec 32).extractLsb' 31 1 == 1#1) = false := by
    rw [beq_eq_false_iff_ne]
    intro h
    have h1 := congrArg BitVec.toNat h
    rw [BitVec.extractLsb'_toNat, hx, Nat.shiftRight_eq_div_pow, show (1#1 : BitVec 1).toNat = 1 from rfl] at h1
    omega
  have hr : (8388608 : ℝ) * (2 : ℝ) ^ ((k : ℤ) - 150) = (2 : ℝ) ^ ((k : ℤ) - 127) := by
    rw [show (8388608 : ℝ) = (2 : ℝ) ^ (23 : ℤ) by norm_num, ← zpow_add₀ (by norm_num : (2 : ℝ) ≠ 0),
      show (23 : ℤ) + ((k : ℤ) - 150) = (k : ℤ) - 127 by ring]
  have hm : ((2 ^ 23 + 0 : ℕ) : ℝ) = 8388608 := by norm_num
  have hz : (k : ℤ) - (2 ^ (8 - 1) - 1) - ((23 : ℕ) : ℤ) = (k : ℤ) - 150 := by norm_num; ring
  show Ideal.ieee 8 23 _ = _
  unfold Ideal.ieee
  simp only [e1, e2, e3]
  rw [if_neg (by omega), if_neg (by omega), hm, hz, ← hr]
  simp only [Bool.false_eq_true, if_false, one_mul]

theorem pw_lt {a b : ℕ} (h1 : 1 ≤ a) (hab : a < b) (h2 : b ≤ 255) : pw a < pw b := by
  rw [pw_eq a h1 (by omega)]
  rcases Nat.lt_or_ge b 255 with hb | hb
  · rw [pw_eq b (by omega) (by omega), EReal.coe_lt_coe_iff]
    exact zpow_lt_zpow_right₀ (by norm_num) (by omega)
  · obtain rfl : b = 255 := by omega
    rw [pw_top]; exact EReal.coe_lt_top _

theorem pw_le {a b : ℕ} (h1 : 1 ≤ a) (hab : a ≤ b) (h2 : b ≤ 255) : pw a ≤ pw b := by
  rcases Nat.lt_or_ge a b with h | h
  · exact (pw_lt h1 h h2).le
  · obtain rfl : a = b := by omega
    exact le_rfl

theorem pw_one : pw 127 = 1 := by rw [pw_eq 127 (by omega) (by omega)]; norm_num

/-! ### The kernel's -/

/-- How many of the powers of two a word's exponent field names are at most `t`. -/
def cnt (t : EReal) : ℕ := (Finset.univ.filter fun k : Fin 256 => pw k.val ≤ t ∧ 0 < k.val).card

/-- The exponent: zero below the least power and at infinity. -/
def kExp (n : ℕ) : BitVec 32 :=
  if BitVec.ofNat 32 n = 0#32 ∨ BitVec.ofNat 32 n = 255#32 then 0#32 else BitVec.ofNat 32 n - 126#32

def kScale (t : EReal) : EReal := Ideal.ofBits .f32 ((kExp (cnt t) + 127#32) <<< 23)

def kInv (t : EReal) : EReal :=
  Ideal.ofBits .f32 ((if (127#32 - kExp (cnt t)).toInt < (0#32).toInt then 0#32 else 127#32 - kExp (cnt t)) <<< 23)

theorem cnt_spec (t : EReal) : cnt t ≤ 255 ∧ ∀ k, 1 ≤ k → k ≤ 255 → (pw k ≤ t ↔ k ≤ cnt t) := by
  classical
  set n := Nat.findGreatest (fun k => pw k ≤ t) 255 with hn
  have hle : n ≤ 255 := Nat.findGreatest_le _
  have hk : ∀ k, 1 ≤ k → k ≤ 255 → (pw k ≤ t ↔ k ≤ n) := by
    intro k h1 h2
    constructor
    · intro h; exact Nat.le_findGreatest h2 h
    · intro h
      have hne : n ≠ 0 := by omega
      have hP : pw n ≤ t := Nat.findGreatest_of_ne_zero hn.symm hne
      exact (pw_le h1 h hle).trans hP
  have hc : cnt t = n := by
    unfold cnt
    have : (Finset.univ.filter fun k : Fin 256 => pw k.val ≤ t ∧ 0 < k.val)
        = (Finset.Icc 1 n).attachFin (fun k hk => by rw [Finset.mem_Icc] at hk; omega) := by
      ext k
      rw [Finset.mem_filter, Finset.mem_attachFin, Finset.mem_Icc]
      constructor
      · rintro ⟨_, h, h0⟩; exact ⟨h0, (hk _ h0 (by omega)).1 h⟩
      · rintro ⟨h0, h⟩; exact ⟨Finset.mem_univ _, (hk _ h0 (by omega)).2 h, h0⟩
    rw [this, Finset.card_attachFin, Nat.card_Icc]; omega
  rw [hc]; exact ⟨hle, hk⟩

private theorem words : ∀ n : Fin 256,
    (kExp n.val + 127#32) = BitVec.ofNat 32 (if n.val = 0 ∨ n.val = 255 then 127 else n.val + 1)
    ∧ (if (127#32 - kExp n.val).toInt < (0#32).toInt then 0#32 else 127#32 - kExp n.val)
        = BitVec.ofNat 32 (if n.val = 0 ∨ n.val = 255 then 127 else 253 - n.val) := by
  unfold kExp
  decide +kernel

theorem kScale_eq (t : EReal) : kScale t = pw (if cnt t = 0 ∨ cnt t = 255 then 127 else cnt t + 1) := by
  have h := (words ⟨cnt t, by have := (cnt_spec t).1; omega⟩).1
  unfold kScale pw
  rw [h]

theorem kInv_eq (t : EReal) : kInv t = pw (if cnt t = 0 ∨ cnt t = 255 then 127 else 253 - cnt t) := by
  have h := (words ⟨cnt t, by have := (cnt_spec t).1; omega⟩).2
  unfold kInv pw
  rw [h]

/-! ### The reference's -/

/-- The power of two at position `j`: `2 ^ (j - 128)`. -/
def power (j : Fin 256) : EReal := Ideal.exp2 ((((BitVec.ofNat 32 j.val - 128#32).toInt : ℤ) : ℝ) : EReal)

/-- The least of the powers `2 ^ -125 … 2 ^ 127` above `t`, infinity if there is none. -/
def least (t : EReal) : EReal :=
  (Finset.univ : Finset (Fin 256)).fold min ⊤ (fun j => if t < power j ∧ 3 ≤ j.val then power j else ⊤)

def rScale (t : EReal) : EReal := if t < pw 1 ∨ t = ⊤ then 1 else least t

def rInv (t : EReal) : EReal := if pw 253 < rScale t then 0 else Ideal.div 1 (rScale t)

theorem power_eq (j : Fin 256) (h : 2 ≤ j.val) : power j = pw (j.val - 1) := by
  have hw : (BitVec.ofNat 32 j.val - 128#32).toInt = (j.val : ℤ) - 128 := by
    have : ∀ j : Fin 256, (BitVec.ofNat 32 j.val - 128#32).toInt = (j.val : ℤ) - 128 := by decide +kernel
    exact this j
  rw [power, hw, pw_eq _ (by omega) (by omega), Ideal.exp2_coe]
  congr 1
  show (2 : ℝ) ^ (((j.val : ℤ) - 128 : ℤ) : ℝ) = _
  rw [Real.rpow_intCast]
  congr 1
  omega

theorem rScale_eq (t : EReal) : rScale t = pw (if cnt t = 0 ∨ cnt t = 255 then 127 else cnt t + 1) := by
  obtain ⟨hle, hk⟩ := cnt_spec t
  have h0 : t < pw 1 ↔ cnt t = 0 := by
    rw [← not_le, hk 1 (by omega) (by omega)]; omega
  have h255 : t = ⊤ ↔ cnt t = 255 := by
    rw [← top_le_iff, ← pw_top, hk 255 (by omega) (by omega)]; omega
  unfold rScale
  simp only [h0, h255]
  split_ifs with h
  · exact pw_one.symm
  · apply le_antisymm
    · unfold least
      rw [Finset.fold_min_le]
      by_cases h254 : cnt t = 254
      · left; rw [h254, pw_top]
      · right
        refine ⟨⟨cnt t + 2, by omega⟩, Finset.mem_univ _, ?_⟩
        rw [power_eq _ (by simp)]
        rw [if_pos]
        · simp
        · refine ⟨?_, by simp; omega⟩
          rw [← not_le]
          show ¬ pw (cnt t + 2 - 1) ≤ t
          rw [hk _ (by omega) (by omega)]; omega
    · unfold least
      rw [Finset.le_fold_min]
      refine ⟨le_top, fun j _ => ?_⟩
      split_ifs with hj
      · obtain ⟨hj1, hj2⟩ := hj
        rw [power_eq _ (by omega)] at hj1 ⊢
        rw [← not_le, hk _ (by omega) (by omega)] at hj1
        exact pw_le (by omega) (by omega) (by omega)
      · exact le_top

theorem scale_eq (t : EReal) : kScale t = rScale t := by rw [kScale_eq, rScale_eq]

theorem inv_eq (t : EReal) : kInv t = rInv t := by
  obtain ⟨hle, hk⟩ := cnt_spec t
  rw [kInv_eq, rInv, rScale_eq]
  have hdiv : ∀ k, 1 ≤ k → k ≤ 253 → Ideal.div 1 (pw k) = pw (254 - k) := by
    intro k h1 h2
    rw [pw_eq k h1 (by omega), pw_eq (254 - k) (by omega) (by omega)]
    have hne : (2 : ℝ) ^ ((k : ℤ) - 127) ≠ 0 := zpow_ne_zero _ (by norm_num)
    unfold Ideal.div
    rw [if_neg (by exact_mod_cast hne), one_mul, ← EReal.coe_inv, ← zpow_neg]
    congr 2
    omega
  by_cases h : cnt t = 0 ∨ cnt t = 255
  · rw [if_pos h, if_pos h, if_neg (not_lt.2 (pw_le (by omega) (by omega) (by omega))), hdiv 127 (by omega) (by omega)]
  · rw [if_neg h, if_neg h]
    by_cases h2 : 253 ≤ cnt t
    · rw [if_pos (pw_lt (by omega) (by omega) (by omega)), show 253 - cnt t = 0 by omega, pw_zero]
    · rw [if_neg (not_lt.2 (pw_le (by omega) (by omega) (by omega))), hdiv _ (by omega) (by omega)]
      congr 1
      omega

end Cert.Scale
-- ==== Proof.Row.lean ====
/-
  One row of the result, on its own: the quantiser of a row, the scaled products of its codes with an expert's matrix, the gated hidden
  row, and that row quantised. Everything the kernel and the reference compute is this function of a row and its expert.
-/
module

public import proofs.«01_k».proof.Proof.Scale

@[expose] public section

noncomputable section

namespace Cert.Row

open Idealize.ShloMosaic Cert.Scale

/-- The largest magnitude of a row over the largest code. -/
def tOf (v : Fin 2816 → EReal) : EReal :=
  (Finset.univ : Finset (Fin 2816)).fold max ⊥ (fun j => max (v j) (-(v j))) * Ideal.ofBits .f32 0x3B124925#32

/-- A row's scale. -/
def scale (v : Fin 2816 → EReal) : EReal := rScale (tOf v)

/-- A value times the inverse scale, clipped to the codes' range. -/
def clip (x s : EReal) : EReal := min (Ideal.ofBits .f32 0x43E00000#32) (max (Ideal.ofBits .f32 0xC3E00000#32) (x * s))

/-- A row's codes. -/
def code (v : Fin 2816 → EReal) (j : Fin 2816) : EReal := clip (v j) (rInv (tOf v))

/-- The scaled product of codes `q` of scale `s` with the matrix `w` of scales `ws`, at a column. -/
def scaled (q : Fin 2816 → EReal) (s : EReal) (w : Fin 2816 → Fin 5632 → EReal) (ws : Fin 5632 → EReal) (c : Fin 5632) : EReal :=
  (∑ k, q k * w k c) * s * ws c

/-- The gate's column and the other factor's column of a hidden column. -/
def gcol (j : Fin 2816) : Fin 5632 := ⟨j.val, by omega⟩
def ucol (j : Fin 2816) : Fin 5632 := ⟨2816 + j.val, by omega⟩

/-- `silu(g) · u`. -/
def gate (g u : EReal) : EReal := g * Ideal.logistic g * u

/-- The hidden row. -/
def hid (x : Fin 2816 → EReal) (w : Fin 2816 → Fin 5632 → EReal) (ws : Fin 5632 → EReal) (j : Fin 2816) : EReal :=
  gate (scaled (code x) (scale x) w ws (gcol j)) (scaled (code x) (scale x) w ws (ucol j))

/-- The result's codes and scale. -/
def y (x : Fin 2816 → EReal) (w : Fin 2816 → Fin 5632 → EReal) (ws : Fin 5632 → EReal) (j : Fin 2816) : EReal := code (hid x w ws) j
def ys (x : Fin 2816 → EReal) (w : Fin 2816 → Fin 5632 → EReal) (ws : Fin 5632 → EReal) : EReal := scale (hid x w ws)

end Cert.Row
-- ==== Proof.Body.lean ====
/-
  The kernel's arithmetic read over the reals, one payload at a time: the row quantiser, and a block of hidden columns.
-/
module

public import proofs.«01_k».proof.Proof.Row
public import proofs.«01_k».proof.Proof.IdealRun
public import Idealize.ShloMosaic.Lib.Pointwise
public import Idealize.ShloMosaic.Lib.MatmulPlain
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe
open Cert.Scale Cert.Row

/-- A sum of words that are one where `p` holds and zero elsewhere counts. -/
theorem fold_count {n : ℕ} (p : Fin n → Prop) [DecidablePred p] (f : Fin n → BitVec 32) (hf : ∀ k, f k = if p k then 1#32 else 0#32)
    (s : Finset (Fin n)) : s.fold IntOp.addi 0#32 f = BitVec.ofNat 32 (s.filter p).card := by
  classical
  induction s using Finset.induction_on with
  | empty => rfl
  | insert a s ha ih =>
    rw [Finset.fold_insert ha, ih, hf a, Finset.filter_insert]
    by_cases h : p a
    · rw [if_pos h, if_pos h, Finset.card_insert_of_notMem (fun h' => ha (Finset.mem_filter.1 h').1)]
      apply BitVec.eq_of_toNat_eq
      simp [IntOp.addi, Nat.add_comm]
    · rw [if_neg h, if_neg h]
      simp [IntOp.addi]

/-- The kernel's count over the positions of an exponent field. -/
theorem fold_cnt (t : EReal) :
    (Finset.univ : Finset (Fin 256)).fold IntOp.addi (0#32) (fun x => BitVec.setWidth 32 (IntOp.andi
      (BitVec.ofBool (decide (Ideal.ofBits .f32 (IntOp.shli ArithUnit.vector (BitVec.ofNat 32 x.val) 23#32) ≤ t)))
      (IntOp.cmpi CmpIPredicate.sgt (BitVec.ofNat 32 x.val) 0#32))) = BitVec.ofNat 32 (cnt t) := by
  refine fold_count (fun k : Fin 256 => pw k.val ≤ t ∧ 0 < k.val) _ (fun k => ?_) Finset.univ
  have h1 : IntOp.shli ArithUnit.vector (BitVec.ofNat 32 k.val) 23#32 = BitVec.ofNat 32 k.val <<< 23 := rfl
  have h2 : IntOp.cmpi CmpIPredicate.sgt (BitVec.ofNat 32 k.val) 0#32 = BitVec.ofBool (decide (0 < k.val)) := by
    have : ∀ k : Fin 256, IntOp.cmpi CmpIPredicate.sgt (BitVec.ofNat 32 k.val) 0#32 = BitVec.ofBool (decide (0 < k.val)) := by
      decide +kernel
    exact this k
  rw [h1, h2]
  show BitVec.setWidth 32 (IntOp.andi (BitVec.ofBool (decide (pw k.val ≤ t))) _) = _
  by_cases ha : pw k.val ≤ t <;> by_cases hb : 0 < k.val <;> simp [ha, hb, IntOp.andi]

theorem ori_one : ∀ a b : BitVec 1, IntOp.ori a b = 1#1 ↔ a = 1#1 ∨ b = 1#1 := by decide

/-- The kernel's choice of exponent from the count. -/
theorem exp_word (n : ℕ) :
    Scalar.select (IntOp.ori (IntOp.cmpi CmpIPredicate.eq (BitVec.ofNat 32 n) 0#32) (IntOp.cmpi CmpIPredicate.eq (BitVec.ofNat 32 n) 255#32))
      (0#32) (IntOp.subi (BitVec.ofNat 32 n) 126#32) = kExp n := by
  unfold kExp
  generalize BitVec.ofNat 32 n = a
  have h : (IntOp.ori (IntOp.cmpi CmpIPredicate.eq a 0#32) (IntOp.cmpi CmpIPredicate.eq a 255#32) = 1#1) ↔ (a = 0#32 ∨ a = 255#32) := by
    rw [ori_one, WordCmp.cmpi_eq_eq, WordCmp.cmpi_eq_eq]
    by_cases h0 : a = 0#32 <;> by_cases h1 : a = 255#32 <;> simp [h0, h1]
  exact if_congr h rfl rfl

theorem neg_inf : Ideal.ofBits .f32 4286578688#32 = ⊥ := by simp [Ideal.ofBits, Ideal.ieee]

theorem pay9_apply (v : Vec Ideal S32x2816 .f32) (r : Fin 32) :
    k0_pay9 (F := Ideal) v (ix2 r 0) = kExp (cnt (tOf fun j => v (ix2 r j))) := by
  unfold k0_pay9
  pointwise
  rw [neg_inf, fold_cnt, exp_word]
  rfl

theorem pay10_apply (v : Vec Ideal S32x2816 .f32) (r : Fin 32) :
    k0_pay10 (F := Ideal) v (ix2 r 0) = scale fun j => v (ix2 r j) := by
  unfold k0_pay10
  pointwise
  rw [pay9_apply, scale, ← scale_eq]
  rfl

theorem maxsi_eq (a b : BitVec 32) : IntOp.maxsi a b = if a.toInt < b.toInt then b else a := by
  unfold IntOp.maxsi
  simp only [BitVec.slt, decide_eq_true_eq]
  split_ifs with h1 h2 h2
  · omega
  · rfl
  · rfl
  · exact (BitVec.eq_of_toInt_eq (by omega)).symm

theorem pay11_apply (v : Vec Ideal S32x2816 .f32) (r : Fin 32) :
    k0_pay11 (F := Ideal) v (ix2 r 0) = rInv (tOf fun j => v (ix2 r j)) := by
  unfold k0_pay11
  pointwise
  rw [pay9_apply, ← inv_eq]
  unfold kInv
  rw [← maxsi_eq]
  rfl

/-- The codes of a row block. -/
theorem pay12_apply (v : Vec Ideal S32x2816 .bf16) (r : Fin 32) (j : Fin 2816) :
    k0_pay12 (F := Ideal) (k0_pay5 v) (k0_pay8 v) (ix2 r j) = code (fun j => v (ix2 r j)) j := by
  unfold k0_pay12
  pointwise
  rw [show k0_pay8 (F := Ideal) v (ix2 r j) = k0_pay11 (F := Ideal) (k0_pay5 v) (ix2 r 0) by unfold k0_pay8; pointwise; rfl, pay11_apply]
  rfl

/-- Its scales, one per lane. -/
theorem pay13_apply (v : Vec Ideal S32x2816 .bf16) (r : Fin 32) (j : Fin 128) :
    k0_pay13 (F := Ideal) (k0_pay7 v) (ix2 r j) = scale (fun j => v (ix2 r j)) := by
  unfold k0_pay13
  pointwise
  exact pay10_apply (k0_pay5 v) r

theorem pay15_apply (xq : Vec Ideal S256x2816 .fp8e4m3) (xs : Vec Ideal S256x1 .f32) (wg wu : Vec Ideal S1x2816x256 .fp8e4m3)
    (sg su : Vec Ideal S1x1x256 .f32) (r j : Fin 256) :
    k0_pay15 (F := Ideal) (k0_pay14 xq xs wg wu sg su) (ix2 r j)
      = gate ((∑ k : Fin 2816, xq (ix2 r k) * wg (ix3 0 k j)) * xs (ix2 r 0) * sg (ix3 0 0 j))
          ((∑ k : Fin 2816, xq (ix2 r k) * wu (ix3 0 k j)) * xs (ix2 r 0) * su (ix3 0 0 j)) := by
  unfold k0_pay15 k0_pay14
  pointwise
  rw [zero_sub]
  rfl

/-- The codes of a block of hidden rows, where the mask keeps them, and the block's own elsewhere. -/
theorem pay3_apply (i : grid0.Coords) (v1 v8 v10 : Elt Ideal .i32) (a : BitVec 32) (h : Vec Ideal S32x2816 .f32)
    (q : IVec S32x1 32) (b : BitVec 32) (old : Vec Ideal S32x2816 .fp8e4m3) (r : Fin 32) (j : Fin 2816) :
    k0_pay3 (F := Ideal) i v1 v8 v10 a h (k0_pay11 h) q b old (ix2 r j)
      = if k0_pay2 (F := Ideal) i v1 v8 v10 a q b (ix2 r 0) = 1#1 then code (fun j => h (ix2 r j)) j else old (ix2 r j) := by
  unfold k0_pay3
  pointwise
  rw [pay11_apply]
  rfl

theorem pay4_apply (i : grid0.Coords) (v1 v8 v10 : Elt Ideal .i32) (a : BitVec 32) (h : Vec Ideal S32x2816 .f32)
    (q : IVec S32x1 32) (b : BitVec 32) (old : Vec Ideal S32x1 .f32) (r : Fin 32) :
    k0_pay4 (F := Ideal) i v1 v8 v10 a (k0_pay10 h) q b old (ix2 r 0)
      = if k0_pay2 (F := Ideal) i v1 v8 v10 a q b (ix2 r 0) = 1#1 then scale (fun j => h (ix2 r j)) else old (ix2 r 0) := by
  unfold k0_pay4
  pointwise
  rw [pay10_apply]
  rfl

/-- The row word of the `k`-th block. -/
theorem row_word : ∀ (k : Fin 8) (r : Fin 32),
    IntOp.addi (BitVec.ofNat 32 r.val) (Scalar.muli (Scf.iv 0#32 1#32 k.val) 32#32) = BitVec.ofNat 32 (32 * k.val + r.val) := by
  decide +kernel

/-- The mask of the `k`-th block of rows: rows from `lo` on, or every row when the tile is a new one. -/
theorem pay2_apply (i : grid0.Coords) (v1 v8 v10 : BitVec 32) (k : Fin 8) (r : Fin 32) (lo p q : ℕ)
    (hlo : v1 = BitVec.ofNat 32 lo) (hp : v8 = BitVec.ofNat 32 p) (hq : v10 = BitVec.ofNat 32 q)
    (h1 : lo < 2 ^ 31) (h2 : p < 2 ^ 31) (h3 : q < 2 ^ 31) :
    k0_pay2 (F := Ideal) i v1 v8 v10 (Scf.iv 0#32 1#32 k.val) (iota .tc S32x1 32 [0] iota_S32x1_d0_w32) 32#32 (ix2 r 0) = 1#1
      ↔ lo ≤ 32 * k.val + r.val ∨ (i 0).val = 0 ∨ p ≠ q := by
  unfold k0_pay2
  pointwise
  have hi : (i 0).val < 288 := (i 0).isLt
  subst hlo hp hq
  show IntOp.ori (IntOp.cmpi _ (IntOp.addi _ _) _) (IntOp.ori (IntOp.cmpi _ _ _) (IntOp.cmpi _ _ _)) = 1#1 ↔ _
  rw [row_word, ori_one, ori_one, WordCmp.cmpi_sge_ofNat_eq_one_iff (w := 32) (by omega) (by omega),
    WordCmp.cmpi_eq_ofNat_eq_one_iff (w := 32) (b := 0) (by omega) (by omega), WordCmp.cmpi_ne_ofNat_eq_one_iff (w := 32) (by omega) (by omega)]

end Cert.KernelIdeal.Body
-- ==== Proof.Point.lean ====
/-
  What a grid point whose item has rows leaves in the two output blocks, row by row: a row the mask keeps gets the quantised hidden row of
  the `x` block's row under the item's expert, any other row keeps what the block held.
-/
module

public import proofs.«01_k».proof.Proof.Body
public import Idealize.ShloMosaic.Lib.WritesUnit
public import Idealize.ShloMosaic.Lib.Pipeline.Value
public import Idealize.ShloMosaic.Lib.Pipeline.ValueKit.Tiles

@[expose] public section

set_option maxRecDepth 16384

noncomputable section

namespace Cert.KernelIdeal.Point

open Cert.KernelIdeal Cert.KernelIdeal.Gen Cert.KernelIdeal.Run Cert.KernelIdeal.Body
open Idealize.ShloMosaic Idealize.ShloMosaic.TcCoe
open Cert.Scale Cert.Row

theorem off3 : ∀ k : Fin k0_t1_loop.trips, k0_off3 k = ![32 * k.val, 0] := by decide +kernel
theorem off4 : ∀ k : Fin k0_t1_loop.trips, k0_off4 k = ![32 * k.val, 0] := by decide +kernel
theorem off5 : ∀ k : Fin k0_t2_loop.trips, k0_off5 k = ![32 * k.val, 0] := by decide +kernel
theorem off6 : ∀ k : Fin k0_t2_loop.trips, k0_off6 k = ![32 * k.val, 0] := by decide +kernel
theorem trips1 : k0_t1_loop.trips = 8 := by decide +kernel
theorem trips2 : k0_t2_loop.trips = 8 := by decide +kernel

/-- A loop that writes 32 rows a turn leaves, below row `32 n`, what the turn of the row wrote. -/
theorem loop_read {κ : Kind} {sp : Space} {D T : ℕ} {e : EltTy} (v : View sig κ sp ⟨2, ![256, D]⟩ e) (G : v.ty.Contents (Elt Ideal))
    (off : Fin T → Fin 2 → ℕ) (hoff : ∀ k, off k = ![32 * k.val, 0]) (inb : ∀ k (a : Fin 2), off k a + (![32, D] : Fin 2 → ℕ) a ≤ (![256, D] : Fin 2 → ℕ) a)
    (W : Fin T → Vec Ideal ⟨2, ![32, D]⟩ e) (L : ℕ → List (View.Piece (Elt Ideal) ⟨2, ![256, D]⟩ e))
    (hL : ∀ k : Fin T, L (k.val + 1) = ⟨Rect.unit (s := ⟨2, ![256, D]⟩) (off k) ![32, D] (inb k), W k⟩ :: L k.val) :
    ∀ n ≤ T, ∀ (r : Fin 256) (j : Fin D),
      (∀ k : Fin T, ∀ q : Fin 32, k.val < n → r.val = 32 * k.val + q.val → v.read (Elt Ideal) (v.writes (Elt Ideal) G (L n)) (ix2 r j) = W k (ix2 q j))
      ∧ (32 * n ≤ r.val → v.read (Elt Ideal) (v.writes (Elt Ideal) G (L n)) (ix2 r j) = v.read (Elt Ideal) (v.writes (Elt Ideal) G (L 0)) (ix2 r j)) := by
  intro n
  induction n with
  | zero => intro _ r j; exact ⟨fun k q h => absurd h (Nat.not_lt_zero _), fun _ => rfl⟩
  | succ n ih =>
    intro hn r j
    have ih := ih (by omega) r j
    rw [hL ⟨n, hn⟩]
    constructor
    · intro k q hk hr
      by_cases h : k.val = n
      · obtain rfl : k = ⟨n, hn⟩ := Fin.ext h
        exact View.read_writes_cons_rows_of_mem v G _ _ _ (ix2 r j) (ix2 q j) (hoff _) hr rfl
      · exact (View.read_writes_cons_rows_of_not_mem (o := 32 * n) (W := 32) v G (inb ⟨n, hn⟩) (W ⟨n, hn⟩) (L n) (ix2 r j) (hoff ⟨n, hn⟩) rfl (Or.inl (show r.val < 32 * n by omega))).trans (ih.1 k q (by omega) hr)
    · intro h
      exact (View.read_writes_cons_rows_of_not_mem (o := 32 * n) (W := 32) v G (inb ⟨n, hn⟩) (W ⟨n, hn⟩) (L n) (ix2 r j) (hoff ⟨n, hn⟩) rfl (Or.inr (show 32 * n + 32 ≤ r.val by omega))).trans (ih.2 (by omega))

variable (c : Dev nD) (i : grid0.Coords)
  (arg5 : Memref sig .tc .vmem S256x2816 .bf16) (harg5 : arg5.IsWhole) (arg6 : Memref sig .tc .vmem S1x2816x5632 .fp8e4m3) (harg6 : arg6.IsWhole)
  (arg7 : Memref sig .tc .vmem S1x1x5632 .f32) (harg7 : arg7.IsWhole) (arg8 : Memref sig .tc .vmem S256x2816 .fp8e4m3) (harg8 : arg8.IsWhole)
  (arg9 : Memref sig .tc .vmem S256x1 .f32) (harg9 : arg9.IsWhole)

/-- The pieces the first `n` blocks of 32 rows leave in the scratch of codes and in the scratch of scales. -/
abbrev pb1 (X : BufTy.Contents (Elt Ideal) arg5.view.ty) (n : ℕ) :=
  pb_k0_t1 (F := Ideal) Variants.none c none i tb0 (Memref.isWhole_whole _) tb1 (Memref.isWhole_whole _) tb2 (Memref.isWhole_whole _) tb3
    (Memref.isWhole_whole _) arg5 harg5 arg6 harg6 arg7 harg7 arg8 harg8 arg9 harg9 sc0 (Memref.isWhole_whole _) sc1
    (Memref.isWhole_whole _) sc2 (Memref.isWhole_whole _) X n

/-- Block `k` of the `x` block's rows. -/
abbrev ldx (X : BufTy.Contents (Elt Ideal) arg5.view.ty) (k : Fin k0_t1_loop.trips) : Vec Ideal S32x2816 .bf16 :=
  arg5.view.readAt (Elt Ideal) (Rect.unit (s := S256x2816) (k0_off3 k) S32x2816.size (k0_off3_inb k)).toLoadRect X

theorem ldx_apply (X : BufTy.Contents (Elt Ideal) arg5.view.ty) (k : Fin k0_t1_loop.trips) (r : Fin 32) (j : Fin 2816)
    (R : Fin 256) (hR : R.val = 32 * k.val + r.val) : ldx arg5 X k (ix2 r j) = arg5.view.read (Elt Ideal) X (ix2 R j) := by
  refine View.ld_unit_apply_of (arg5.view.read (Elt Ideal) X) _ _ _ _ _ fun a => ?_
  match a with
  | ⟨0, _⟩ => exact hR.trans (congrArg (· + r.val) (congrFun (off3 k) 0).symm)
  | ⟨1, _⟩ => exact (Nat.zero_add _).symm.trans (congrArg (· + _) (congrFun (off3 k) 1).symm)

theorem pb1_succ (X : BufTy.Contents (Elt Ideal) arg5.view.ty) (k : Fin k0_t1_loop.trips) :
    pb1 c i arg5 harg5 arg6 harg6 arg7 harg7 arg8 harg8 arg9 harg9 X (k.val + 1)
      = (⟨Rect.unit (s := S256x2816) (k0_off3 k) ![32, 2816] (k0_off3_inb k), k0_pay12 (F := Ideal) (k0_pay5 (ldx arg5 X k)) (k0_pay8 (ldx arg5 X k))⟩
          :: (pb1 c i arg5 harg5 arg6 harg6 arg7 harg7 arg8 harg8 arg9 harg9 X k.val).1,
         ⟨Rect.unit (s := S256x128) (k0_off4 k) ![32, 128] (k0_off4_inb k), k0_pay13 (F := Ideal) (k0_pay7 (ldx arg5 X k))⟩
          :: (pb1 c i arg5 harg5 arg6 harg6 arg7 harg7 arg8 harg8 arg9 harg9 X k.val).2) := by
  rw [pb1, pb_k0_t1_succ]
  unfold tripL_k0_t1 trip_k0_t1
  rfl

/-- The scratch of codes after all blocks. -/
theorem xq_read (X : BufTy.Contents (Elt Ideal) arg5.view.ty) (G : BufTy.Contents (Elt Ideal) sc0.view.ty) (r : Fin 256) (j : Fin 2816) :
    sc0.view.read (Elt Ideal) (sc0.view.writes (Elt Ideal) G
        (pb1 c i arg5 harg5 arg6 harg6 arg7 harg7 arg8 harg8 arg9 harg9 X k0_t1_loop.trips).1) (ix2 r j)
      = code (fun j => arg5.view.read (Elt Ideal) X (ix2 r j)) j := by
  have h := (loop_read sc0.view G k0_off3 off3 k0_off3_inb (fun k => k0_pay12 (F := Ideal) (k0_pay5 (ldx arg5 X k)) (k0_pay8 (ldx arg5 X k)))
    (fun n => (pb1 c i arg5 harg5 arg6 harg6 arg7 harg7 arg8 harg8 arg9 harg9 X n).1)
    (fun k => by rw [pb1_succ]) k0_t1_loop.trips le_rfl r j).1 ⟨r.val / 32, by rw [trips1]; omega⟩ ⟨r.val % 32, by omega⟩
    (show r.val / 32 < k0_t1_loop.trips by rw [trips1]; omega) (show r.val = 32 * (r.val / 32) + r.val % 32 by omega)
  refine h.trans ?_
  rw [pay12_apply]
  congr 1
  funext j
  exact ldx_apply arg5 X _ _ _ _ (show r.val = 32 * (r.val / 32) + r.val % 32 by omega)

/-- The scratch of scales after all blocks. -/
theorem xs_read (X : BufTy.Contents (Elt Ideal) arg5.view.ty) (G : BufTy.Contents (Elt Ideal) sc1.view.ty) (r : Fin 256) (j : Fin 128) :
    sc1.view.read (Elt Ideal) (sc1.view.writes (Elt Ideal) G
        (pb1 c i arg5 harg5 arg6 harg6 arg7 harg7 arg8 harg8 arg9 harg9 X k0_t1_loop.trips).2) (ix2 r j)
      = scale (fun j => arg5.view.read (Elt Ideal) X (ix2 r j)) := by
  have h := (loop_read sc1.view G k0_off4 off4 k0_off4_inb (fun k => k0_pay13 (F := Ideal) (k0_pay7 (ldx arg5 X k)))
    (fun n => (pb1 c i arg5 harg5 arg6 harg6 arg7 harg7 arg8 harg8 arg9 harg9 X n).2)
    (fun k => by rw [pb1_succ]) k0_t1_loop.trips le_rfl r j).1 ⟨r.val / 32, by rw [trips1]; omega⟩ ⟨r.val % 32, by omega⟩
    (show r.val / 32 < k0_t1_loop.trips by rw [trips1]; omega) (show r.val = 32 * (r.val / 32) + r.val % 32 by omega)
  refine h.trans ?_
  rw [pay13_apply]
  congr 1
  funext j
  exact ldx_apply arg5 X _ _ _ _ (show r.val = 32 * (r.val / 32) + r.val % 32 by omega)

/-- The pieces the last loop's first `n` blocks leave in the two output blocks. -/
abbrev pb2 (v1 v8 v10 : BitVec 32) (f12 : BufTy.Contents (Elt Ideal) sc2.view.ty) (f8 : BufTy.Contents (Elt Ideal) arg8.view.ty)
    (f9 : BufTy.Contents (Elt Ideal) arg9.view.ty) (n : ℕ) :=
  pb_k0_t2 (F := Ideal) Variants.none c none i tb0 (Memref.isWhole_whole _) tb1 (Memref.isWhole_whole _) tb2 (Memref.isWhole_whole _) tb3
    (Memref.isWhole_whole _) arg5 harg5 arg6 harg6 arg7 harg7 arg8 harg8 arg9 harg9 sc0 (Memref.isWhole_whole _) sc1
    (Memref.isWhole_whole _) sc2 (Memref.isWhole_whole _) v1 v8 v10 f12 f8 f9 n

/-- Block `k` of the hidden rows. -/
abbrev ldh (H : BufTy.Contents (Elt Ideal) sc2.view.ty) (k : Fin k0_t2_loop.trips) : Vec Ideal S32x2816 .f32 :=
  sc2.view.readAt (Elt Ideal) (Rect.unit (s := S256x2816) (k0_off5 k) S32x2816.size (k0_off5_inb k)).toLoadRect H

theorem ldh_apply (H : BufTy.Contents (Elt Ideal) sc2.view.ty) (k : Fin k0_t2_loop.trips) (r : Fin 32) (j : Fin 2816)
    (R : Fin 256) (hR : R.val = 32 * k.val + r.val) : ldh H k (ix2 r j) = sc2.view.read (Elt Ideal) H (ix2 R j) := by
  refine View.ld_unit_apply_of (sc2.view.read (Elt Ideal) H) _ _ _ _ _ fun a => ?_
  match a with
  | ⟨0, _⟩ => exact hR.trans (congrArg (· + r.val) (congrFun (off5 k) 0).symm)
  | ⟨1, _⟩ => exact (Nat.zero_add _).symm.trans (congrArg (· + _) (congrFun (off5 k) 1).symm)

abbrev ldy (B : BufTy.Contents (Elt Ideal) arg8.view.ty) (k : Fin k0_t2_loop.trips) : Vec Ideal S32x2816 .fp8e4m3 :=
  arg8.view.readAt (Elt Ideal) (Rect.unit (s := S256x2816) (k0_off5 k) S32x2816.size (k0_off5_inb k)).toLoadRect B

theorem ldy_apply (B : BufTy.Contents (Elt Ideal) arg8.view.ty) (k : Fin k0_t2_loop.trips) (r : Fin 32) (j : Fin 2816)
    (R : Fin 256) (hR : R.val = 32 * k.val + r.val) : ldy arg8 B k (ix2 r j) = arg8.view.read (Elt Ideal) B (ix2 R j) := by
  refine View.ld_unit_apply_of (arg8.view.read (Elt Ideal) B) _ _ _ _ _ fun a => ?_
  match a with
  | ⟨0, _⟩ => exact hR.trans (congrArg (· + r.val) (congrFun (off5 k) 0).symm)
  | ⟨1, _⟩ => exact (Nat.zero_add _).symm.trans (congrArg (· + _) (congrFun (off5 k) 1).symm)

abbrev lds (B : BufTy.Contents (Elt Ideal) arg9.view.ty) (k : Fin k0_t2_loop.trips) : Vec Ideal S32x1 .f32 :=
  arg9.view.readAt (Elt Ideal) (Rect.unit (s := S256x1) (k0_off6 k) S32x1.size (k0_off6_inb k)).toLoadRect B

theorem lds_apply (B : BufTy.Contents (Elt Ideal) arg9.view.ty) (k : Fin k0_t2_loop.trips) (r : Fin 32)
    (R : Fin 256) (hR : R.val = 32 * k.val + r.val) : lds arg9 B k (ix2 r 0) = arg9.view.read (Elt Ideal) B (ix2 R 0) := by
  refine View.ld_unit_apply_of (arg9.view.read (Elt Ideal) B) _ _ _ _ _ fun a => ?_
  match a with
  | ⟨0, _⟩ => exact hR.trans (congrArg (· + r.val) (congrFun (off6 k) 0).symm)
  | ⟨1, _⟩ => exact (Nat.zero_add _).symm.trans (congrArg (· + _) (congrFun (off6 k) 1).symm)

section T2

variable (v1 v8 v10 : BitVec 32) (f12 : BufTy.Contents (Elt Ideal) sc2.view.ty) (f8 : BufTy.Contents (Elt Ideal) arg8.view.ty)
    (f9 : BufTy.Contents (Elt Ideal) arg9.view.ty)

theorem pb2_succ (k : Fin k0_t2_loop.trips) :
    pb2 c i arg5 harg5 arg6 harg6 arg7 harg7 arg8 harg8 arg9 harg9 v1 v8 v10 f12 f8 f9 (k.val + 1)
      = (⟨Rect.unit (s := S256x2816) (k0_off5 k) ![32, 2816] (k0_off5_inb k), k0_pay3 (F := Ideal) i v1 v8 v10 (Scf.iv 0#32 1#32 k.val) (ldh f12 k)
            (k0_pay11 (ldh f12 k)) (iota .tc S32x1 32 [0] iota_S32x1_d0_w32) 32#32 (ldy arg8 (arg8.view.writes (Elt Ideal) f8
              (pb2 c i arg5 harg5 arg6 harg6 arg7 harg7 arg8 harg8 arg9 harg9 v1 v8 v10 f12 f8 f9 k.val).1) k)⟩
          :: (pb2 c i arg5 harg5 arg6 harg6 arg7 harg7 arg8 harg8 arg9 harg9 v1 v8 v10 f12 f8 f9 k.val).1,
         ⟨Rect.unit (s := S256x1) (k0_off6 k) ![32, 1] (k0_off6_inb k), k0_pay4 (F := Ideal) i v1 v8 v10 (Scf.iv 0#32 1#32 k.val)
            (k0_pay10 (ldh f12 k)) (iota .tc S32x1 32 [0] iota_S32x1_d0_w32) 32#32 (lds arg9 (arg9.view.writes (Elt Ideal) f9
              (pb2 c i arg5 harg5 arg6 harg6 arg7 harg7 arg8 harg8 arg9 harg9 v1 v8 v10 f12 f8 f9 k.val).2) k)⟩
          :: (pb2 c i arg5 harg5 arg6 harg6 arg7 harg7 arg8 harg8 arg9 harg9 v1 v8 v10 f12 f8 f9 k.val).2) := by
  rw [pb2, pb_k0_t2_succ]
  unfold tripL_k0_t2 trip_k0_t2
  rfl

variable (lo p q : ℕ) (hlo : v1 = BitVec.ofNat 32 lo) (hp : v8 = BitVec.ofNat 32 p) (hq : v10 = BitVec.ofNat 32 q)
    (h1 : lo < 2 ^ 31) (h2 : p < 2 ^ 31) (h3 : q < 2 ^ 31)

include hlo hp hq h1 h2 h3

/-- The block of codes after the last loop. -/
theorem y_read (r : Fin 256) (j : Fin 2816) :
    arg8.view.read (Elt Ideal) (arg8.view.writes (Elt Ideal) f8
        (pb2 c i arg5 harg5 arg6 harg6 arg7 harg7 arg8 harg8 arg9 harg9 v1 v8 v10 f12 f8 f9 k0_t2_loop.trips).1) (ix2 r j)
      = if lo ≤ r.val ∨ (i 0).val = 0 ∨ p ≠ q then code (fun j => sc2.view.read (Elt Ideal) f12 (ix2 r j)) j
        else arg8.view.read (Elt Ideal) f8 (ix2 r j) := by
  have hr : r.val = 32 * (r.val / 32) + r.val % 32 := by omega
  have hk : r.val / 32 < k0_t2_loop.trips := by rw [trips2]; omega
  have hall := loop_read arg8.view f8 k0_off5 off5 k0_off5_inb (fun k => k0_pay3 (F := Ideal) i v1 v8 v10 (Scf.iv 0#32 1#32 k.val) (ldh f12 k)
            (k0_pay11 (ldh f12 k)) (iota .tc S32x1 32 [0] iota_S32x1_d0_w32) 32#32 (ldy arg8 (arg8.view.writes (Elt Ideal) f8
              (pb2 c i arg5 harg5 arg6 harg6 arg7 harg7 arg8 harg8 arg9 harg9 v1 v8 v10 f12 f8 f9 k.val).1) k))
    (fun n => (pb2 c i arg5 harg5 arg6 harg6 arg7 harg7 arg8 harg8 arg9 harg9 v1 v8 v10 f12 f8 f9 n).1)
    (fun k => by rw [pb2_succ])
  refine ((hall k0_t2_loop.trips le_rfl r j).1 ⟨r.val / 32, hk⟩ ⟨r.val % 32, by omega⟩ hk hr).trans ?_
  rw [pay3_apply]
  have hm := pay2_apply i v1 v8 v10 ⟨r.val / 32, by omega⟩ ⟨r.val % 32, by omega⟩ lo p q hlo hp hq h1 h2 h3
  refine (if_congr (hm.trans (by rw [show 32 * (⟨r.val / 32, by omega⟩ : Fin 8).val + (⟨r.val % 32, by omega⟩ : Fin 32).val = r.val from hr.symm])) ?_ ?_)
  · congr 1
    funext j
    exact ldh_apply f12 _ _ _ _ hr
  · rw [ldy_apply arg8 _ _ _ _ r hr]
    exact (hall (r.val / 32) hk.le r j).2 (by omega)

/-- The block of scales after the last loop. -/
theorem ys_read (r : Fin 256) :
    arg9.view.read (Elt Ideal) (arg9.view.writes (Elt Ideal) f9
        (pb2 c i arg5 harg5 arg6 harg6 arg7 harg7 arg8 harg8 arg9 harg9 v1 v8 v10 f12 f8 f9 k0_t2_loop.trips).2) (ix2 r 0)
      = if lo ≤ r.val ∨ (i 0).val = 0 ∨ p ≠ q then scale (fun j => sc2.view.read (Elt Ideal) f12 (ix2 r j))
        else arg9.view.read (Elt Ideal) f9 (ix2 r 0) := by
  have hr : r.val = 32 * (r.val / 32) + r.val % 32 := by omega
  have hk : r.val / 32 < k0_t2_loop.trips := by rw [trips2]; omega
  have hall := loop_read arg9.view f9 k0_off6 off6 k0_off6_inb (fun k => k0_pay4 (F := Ideal) i v1 v8 v10 (Scf.iv 0#32 1#32 k.val)
            (k0_pay10 (ldh f12 k)) (iota .tc S32x1 32 [0] iota_S32x1_d0_w32) 32#32 (lds arg9 (arg9.view.writes (Elt Ideal) f9
              (pb2 c i arg5 harg5 arg6 harg6 arg7 harg7 arg8 harg8 arg9 harg9 v1 v8 v10 f12 f8 f9 k.val).2) k))
    (fun n => (pb2 c i arg5 harg5 arg6 harg6 arg7 harg7 arg8 harg8 arg9 harg9 v1 v8 v10 f12 f8 f9 n).2)
    (fun k => by rw [pb2_succ])
  refine ((hall k0_t2_loop.trips le_rfl r 0).1 ⟨r.val / 32, hk⟩ ⟨r.val % 32, by omega⟩ hk hr).trans ?_
  rw [pay4_apply]
  have hm := pay2_apply i v1 v8 v10 ⟨r.val / 32, by omega⟩ ⟨r.val % 32, by omega⟩ lo p q hlo hp hq h1 h2 h3
  refine (if_congr (hm.trans (by rw [show 32 * (⟨r.val / 32, by omega⟩ : Fin 8).val + (⟨r.val % 32, by omega⟩ : Fin 32).val = r.val from hr.symm])) ?_ ?_)
  · congr 1
    funext j
    exact ldh_apply f12 _ _ _ _ hr
  · rw [lds_apply arg9 _ _ _ r hr]
    exact (hall (r.val / 32) hk.le r 0).2 (by omega)

end T2

end Cert.KernelIdeal.Point
-- ==== Proof.Hidden.lean ====
/-
  The hidden rows that a grid point leaves in its scratch: eleven blocks of 256 columns, each the gated product of the block's two column
  ranges, which together are the hidden rows of the `x` block under the expert's weights.
-/
module

public import proofs.«01_k».proof.Proof.Point

@[expose] public section

set_option maxRecDepth 16384

noncomputable section

namespace Cert.KernelIdeal.Point

open Cert.KernelIdeal Cert.KernelIdeal.Gen Cert.KernelIdeal.Run Cert.KernelIdeal.Body
open Idealize.ShloMosaic Idealize.ShloMosaic.TcCoe
open Cert.Scale Cert.Row

/-- A list of blocks of 256 columns reads, in block `k`, what the block holds. -/
theorem cols_read {κ : Kind} {sp : Space} {D T : ℕ} {e : EltTy} (v : View sig κ sp ⟨2, ![256, D]⟩ e) (G : v.ty.Contents (Elt Ideal))
    (inb : ∀ (k : Fin T) (a : Fin 2), (![0, 256 * k.val] : Fin 2 → ℕ) a + (![256, 256] : Fin 2 → ℕ) a ≤ (![256, D] : Fin 2 → ℕ) a)
    (W : Fin T → Vec Ideal ⟨2, ![256, 256]⟩ e) (L : ℕ → List (View.Piece (Elt Ideal) ⟨2, ![256, D]⟩ e))
    (hL : ∀ k : Fin T, L (k.val + 1) = ⟨Rect.unit (s := ⟨2, ![256, D]⟩) ![0, 256 * k.val] ![256, 256] (inb k), W k⟩ :: L k.val) :
    ∀ n ≤ T, ∀ (r : Fin 256) (j : Fin D) (k : Fin T) (q : Fin 256), k.val < n → j.val = 256 * k.val + q.val →
      v.read (Elt Ideal) (v.writes (Elt Ideal) G (L n)) (ix2 r j) = W k (ix2 r q) := by
  intro n
  induction n with
  | zero => intro _ r j k q h; exact absurd h (Nat.not_lt_zero _)
  | succ n ih =>
    intro hn r j k q hk hj
    rw [hL ⟨n, hn⟩]
    by_cases h : k.val = n
    · obtain rfl : k = ⟨n, hn⟩ := Fin.ext h
      exact View.read_writes_cons_unit_of_mem v G (inb ⟨n, hn⟩) (W ⟨n, hn⟩) (L n) (ix2 r j) (ix2 r q) rfl
        (Fin.forall_fin_two.mpr ⟨(Nat.zero_add _).symm, hj⟩)
    · exact (View.read_writes_cons_unit_of_not_mem v G (inb ⟨n, hn⟩) (W ⟨n, hn⟩) (L n) (ix2 r j) rfl (1 : Fin 2)
        (Or.inl (show j.val < 256 * n by omega))).trans (ih (by omega) r j k q (by omega) hj)

variable (c : Dev nD) (i : grid0.Coords)
  (arg5 : Memref sig .tc .vmem S256x2816 .bf16) (harg5 : arg5.IsWhole) (arg6 : Memref sig .tc .vmem S1x2816x5632 .fp8e4m3) (harg6 : arg6.IsWhole)
  (arg7 : Memref sig .tc .vmem S1x1x5632 .f32) (harg7 : arg7.IsWhole) (arg8 : Memref sig .tc .vmem S256x2816 .fp8e4m3) (harg8 : arg8.IsWhole)
  (arg9 : Memref sig .tc .vmem S256x1 .f32) (harg9 : arg9.IsWhole)

theorem inbW (o : ℕ) (h : o + 256 ≤ 5632) : ∀ a : Fin 3, (![0, 0, o] : Fin 3 → ℕ) a + S1x2816x256.size a ≤ S1x2816x5632.size a
  | ⟨0, _⟩ => le_rfl
  | ⟨1, _⟩ => le_rfl
  | ⟨2, _⟩ => h

theorem inbS (o : ℕ) (h : o + 256 ≤ 5632) : ∀ a : Fin 3, (![0, 0, o] : Fin 3 → ℕ) a + S1x1x256.size a ≤ S1x1x5632.size a
  | ⟨0, _⟩ => le_rfl
  | ⟨1, _⟩ => le_rfl
  | ⟨2, _⟩ => h

/-- 256 columns of the weights from column `o`. -/
abbrev ldw (X : BufTy.Contents (Elt Ideal) arg6.view.ty) (o : ℕ) (h : o + 256 ≤ 5632) : Vec Ideal S1x2816x256 .fp8e4m3 :=
  arg6.view.readAt (Elt Ideal) (Rect.unit (s := S1x2816x5632) ![0, 0, o] S1x2816x256.size (inbW o h)).toLoadRect X

/-- 256 of the weights' column scales from column `o`. -/
abbrev ldws (X : BufTy.Contents (Elt Ideal) arg7.view.ty) (o : ℕ) (h : o + 256 ≤ 5632) : Vec Ideal S1x1x256 .f32 :=
  arg7.view.readAt (Elt Ideal) (Rect.unit (s := S1x1x5632) ![0, 0, o] S1x1x256.size (inbS o h)).toLoadRect X

theorem ldw_apply (X : BufTy.Contents (Elt Ideal) arg6.view.ty) (o : ℕ) (h : o + 256 ≤ 5632) (k : Fin 2816) (j : Fin 256) (J : Fin 5632)
    (hJ : J.val = o + j.val) : ldw arg6 X o h (ix3 0 k j) = arg6.view.read (Elt Ideal) X (ix3 0 k J) := by
  refine View.ld_unit_apply_of (arg6.view.read (Elt Ideal) X) _ _ _ _ _ fun a => ?_
  match a with
  | ⟨0, _⟩ => rfl
  | ⟨1, _⟩ => exact (Nat.zero_add _).symm
  | ⟨2, _⟩ => exact hJ

theorem ldws_apply (X : BufTy.Contents (Elt Ideal) arg7.view.ty) (o : ℕ) (h : o + 256 ≤ 5632) (j : Fin 256) (J : Fin 5632)
    (hJ : J.val = o + j.val) : ldws arg7 X o h (ix3 0 0 j) = arg7.view.read (Elt Ideal) X (ix3 0 0 J) := by
  refine View.ld_unit_apply_of (arg7.view.read (Elt Ideal) X) _ _ _ _ _ fun a => ?_
  match a with
  | ⟨0, _⟩ => rfl
  | ⟨1, _⟩ => rfl
  | ⟨2, _⟩ => exact hJ

/-- Block `b` of the hidden columns, from the codes and scales of the rows. -/
abbrev colBlock (xq : Vec Ideal S256x2816 .fp8e4m3) (xs : Vec Ideal S256x1 .f32) (f6 : BufTy.Contents (Elt Ideal) arg6.view.ty)
    (f7 : BufTy.Contents (Elt Ideal) arg7.view.ty) (b : Fin 11) : Vec Ideal S256x256 .f32 :=
  k0_pay15 (F := Ideal) (k0_pay14 xq xs (ldw arg6 f6 (256 * b.val) (by omega)) (ldw arg6 f6 (2816 + 256 * b.val) (by omega))
    (ldws arg7 f7 (256 * b.val) (by omega)) (ldws arg7 f7 (2816 + 256 * b.val) (by omega)))

theorem inbC (k : Fin 11) : ∀ a : Fin 2, (![0, 256 * k.val] : Fin 2 → ℕ) a + (![256, 256] : Fin 2 → ℕ) a ≤ (![256, 2816] : Fin 2 → ℕ) a
  | ⟨0, _⟩ => le_rfl
  | ⟨1, _⟩ => by show 256 * k.val + 256 ≤ 2816; omega

/-- The pieces of the first `n` column blocks. -/
def cols (xq : Vec Ideal S256x2816 .fp8e4m3) (xs : Vec Ideal S256x1 .f32) (f6 : BufTy.Contents (Elt Ideal) arg6.view.ty)
    (f7 : BufTy.Contents (Elt Ideal) arg7.view.ty) : ℕ → List (View.Piece (Elt Ideal) S256x2816 .f32)
  | 0 => []
  | n + 1 => if h : n < 11 then ⟨Rect.unit (s := S256x2816) ![0, 256 * n] ![256, 256] (inbC ⟨n, h⟩), colBlock arg6 arg7 xq xs f6 f7 ⟨n, h⟩⟩ :: cols xq xs f6 f7 n
      else cols xq xs f6 f7 n

theorem cols_succ (xq : Vec Ideal S256x2816 .fp8e4m3) (xs : Vec Ideal S256x1 .f32) (f6 : BufTy.Contents (Elt Ideal) arg6.view.ty)
    (f7 : BufTy.Contents (Elt Ideal) arg7.view.ty) (n : ℕ) (h : n < 11) :
    cols arg6 arg7 xq xs f6 f7 (n + 1)
      = ⟨Rect.unit (s := S256x2816) ![0, 256 * n] ![256, 256] (inbC ⟨n, h⟩), colBlock arg6 arg7 xq xs f6 f7 ⟨n, h⟩⟩ :: cols arg6 arg7 xq xs f6 f7 n :=
  dif_pos h

variable (f5 : BufTy.Contents (Elt Ideal) arg5.view.ty) (f6 : BufTy.Contents (Elt Ideal) arg6.view.ty) (f7 : BufTy.Contents (Elt Ideal) arg7.view.ty)
  (f10 : BufTy.Contents (Elt Ideal) sc0.view.ty) (f11 : BufTy.Contents (Elt Ideal) sc1.view.ty)

/-- The codes and the scales that the products read. -/
abbrev v17 := runLive.sl.v17 (F := Ideal) c i arg5 harg5 arg6 harg6 arg7 harg7 arg8 harg8 arg9 harg9 f5 f10
abbrev v18 := runLive.sl.v18 (F := Ideal) c i arg5 harg5 arg6 harg6 arg7 harg7 arg8 harg8 arg9 harg9 f5 f11

theorem v17_apply (r : Fin 256) (j : Fin 2816) :
    v17 c i arg5 harg5 arg6 harg6 arg7 harg7 arg8 harg8 arg9 harg9 f5 f10 (ix2 r j) = code (fun j => arg5.view.read (Elt Ideal) f5 (ix2 r j)) j := by
  refine Eq.trans ?_ (xq_read c i arg5 harg5 arg6 harg6 arg7 harg7 arg8 harg8 arg9 harg9 f5 f10 r j)
  refine View.ld_unit_apply_of (sc0.view.read (Elt Ideal) _) _ _ _ _ _ fun a => ?_
  match a with
  | ⟨0, _⟩ => exact (Nat.zero_add _).symm
  | ⟨1, _⟩ => exact (Nat.zero_add _).symm

theorem v18_apply (r : Fin 256) :
    v18 c i arg5 harg5 arg6 harg6 arg7 harg7 arg8 harg8 arg9 harg9 f5 f11 (ix2 r 0) = scale (fun j => arg5.view.read (Elt Ideal) f5 (ix2 r j)) := by
  refine Eq.trans ?_ (xs_read c i arg5 harg5 arg6 harg6 arg7 harg7 arg8 harg8 arg9 harg9 f5 f11 r 0)
  refine View.ld_unit_apply_of (sc1.view.read (Elt Ideal) _) _ _ _ _ _ fun a => ?_
  match a with
  | ⟨0, _⟩ => exact (Nat.zero_add _).symm
  | ⟨1, _⟩ => rfl

/-- The run's pieces are the eleven column blocks. -/
theorem h11_eq : runLive.sl.H12_11 (F := Ideal) c i arg5 harg5 arg6 harg6 arg7 harg7 arg8 harg8 arg9 harg9 f5 f6 f7 f10 f11
    = cols arg6 arg7 (v17 c i arg5 harg5 arg6 harg6 arg7 harg7 arg8 harg8 arg9 harg9 f5 f10) (v18 c i arg5 harg5 arg6 harg6 arg7 harg7 arg8 harg8 arg9 harg9 f5 f11) f6 f7 11 := by
  rfl

/-- The hidden rows after the eleven blocks. -/
theorem hid_read (G : BufTy.Contents (Elt Ideal) sc2.view.ty) (r : Fin 256) (j : Fin 2816) :
    sc2.view.read (Elt Ideal) (sc2.view.writes (Elt Ideal) G
        (runLive.sl.H12_11 (F := Ideal) c i arg5 harg5 arg6 harg6 arg7 harg7 arg8 harg8 arg9 harg9 f5 f6 f7 f10 f11)) (ix2 r j)
      = hid (fun j => arg5.view.read (Elt Ideal) f5 (ix2 r j)) (fun k c => arg6.view.read (Elt Ideal) f6 (ix3 0 k c))
          (fun c => arg7.view.read (Elt Ideal) f7 (ix3 0 0 c)) j := by
  rw [h11_eq]
  have hb : j.val / 256 < 11 := by omega
  have hj : j.val = 256 * (j.val / 256) + j.val % 256 := by omega
  refine (cols_read sc2.view G inbC (colBlock arg6 arg7 _ _ f6 f7) (cols arg6 arg7 _ _ f6 f7) (fun k => cols_succ arg6 arg7 _ _ f6 f7 k.val k.isLt)
    11 le_rfl r j ⟨j.val / 256, hb⟩ ⟨j.val % 256, by omega⟩ hb hj).trans ?_
  refine (pay15_apply _ _ _ _ _ _ r ⟨j.val % 256, by omega⟩).trans ?_
  rw [v18_apply]
  unfold hid scaled
  congr 1
  · rw [ldws_apply arg7 f7 (256 * (j.val / 256)) _ ⟨j.val % 256, by omega⟩ (gcol j) hj]
    congr 2
    refine Finset.sum_congr rfl fun k _ => ?_
    rw [v17_apply, ldw_apply arg6 f6 (256 * (j.val / 256)) _ k ⟨j.val % 256, by omega⟩ (gcol j) hj]
  · have hu : (ucol j).val = 2816 + 256 * (j.val / 256) + j.val % 256 := by show 2816 + j.val = _; omega
    rw [ldws_apply arg7 f7 (2816 + 256 * (j.val / 256)) _ ⟨j.val % 256, by omega⟩ (ucol j) hu]
    congr 2
    refine Finset.sum_congr rfl fun k _ => ?_
    rw [v17_apply, ldw_apply arg6 f6 (2816 + 256 * (j.val / 256)) _ k ⟨j.val % 256, by omega⟩ (ucol j) hu]

section Live

variable (xt0 : TbBuf (F := Ideal) c tb0) (xt1 : TbBuf (F := Ideal) c tb1) (xt2 : TbBuf (F := Ideal) c tb2) (xt3 : TbBuf (F := Ideal) c tb3)
  (hc : k0_cond1 (word c tb2 i xt2) (word c tb3 i xt3) = 1#1)
  (f8 : BufTy.Contents (Elt Ideal) arg8.view.ty) (f9 : BufTy.Contents (Elt Ideal) arg9.view.ty) (f12 : BufTy.Contents (Elt Ideal) sc2.view.ty)

/-- The pieces that the run leaves in the output blocks are the last loop's. -/
theorem live_pb1 : (runLive c i xt0 xt1 xt2 xt3 hc arg5 harg5 arg6 harg6 arg7 harg7 arg8 harg8 arg9 harg9 f5 f6 f7 f8 f9 f10 f11 f12).1
    = (pb2 c i arg5 harg5 arg6 harg6 arg7 harg7 arg8 harg8 arg9 harg9 (word c tb2 i xt2) (wordBefore c tb0 i xt0) (word c tb0 i xt0)
        (sc2.view.writes (Elt Ideal) sc2.view.junk
          (runLive.sl.H12_11 (F := Ideal) c i arg5 harg5 arg6 harg6 arg7 harg7 arg8 harg8 arg9 harg9 f5 f6 f7 f10 f11)) f8 f9 k0_t2_loop.trips).1 := by
  unfold runLive
  dsimp only
  rfl

theorem live_pb2 : (runLive c i xt0 xt1 xt2 xt3 hc arg5 harg5 arg6 harg6 arg7 harg7 arg8 harg8 arg9 harg9 f5 f6 f7 f8 f9 f10 f11 f12).2.1
    = (pb2 c i arg5 harg5 arg6 harg6 arg7 harg7 arg8 harg8 arg9 harg9 (word c tb2 i xt2) (wordBefore c tb0 i xt0) (word c tb0 i xt0)
        (sc2.view.writes (Elt Ideal) sc2.view.junk
          (runLive.sl.H12_11 (F := Ideal) c i arg5 harg5 arg6 harg6 arg7 harg7 arg8 harg8 arg9 harg9 f5 f6 f7 f10 f11)) f8 f9 k0_t2_loop.trips).2 := by
  unfold runLive
  dsimp only
  rfl

variable (lo p q : ℕ) (hlo : word c tb2 i xt2 = BitVec.ofNat 32 lo) (hp : wordBefore c tb0 i xt0 = BitVec.ofNat 32 p)
  (hq : word c tb0 i xt0 = BitVec.ofNat 32 q) (h1 : lo < 2 ^ 31) (h2 : p < 2 ^ 31) (h3 : q < 2 ^ 31)

include hlo hp hq h1 h2 h3

/-- The block of codes after a point with rows. -/
theorem live_y (r : Fin 256) (j : Fin 2816) :
    arg8.view.read (Elt Ideal) (arg8.view.writes (Elt Ideal) f8
        (runLive c i xt0 xt1 xt2 xt3 hc arg5 harg5 arg6 harg6 arg7 harg7 arg8 harg8 arg9 harg9 f5 f6 f7 f8 f9 f10 f11 f12).1) (ix2 r j)
      = if lo ≤ r.val ∨ (i 0).val = 0 ∨ p ≠ q then
          Row.y (fun j => arg5.view.read (Elt Ideal) f5 (ix2 r j)) (fun k c => arg6.view.read (Elt Ideal) f6 (ix3 0 k c))
            (fun c => arg7.view.read (Elt Ideal) f7 (ix3 0 0 c)) j
        else arg8.view.read (Elt Ideal) f8 (ix2 r j) := by
  rw [live_pb1]
  have h := y_read c i arg5 harg5 arg6 harg6 arg7 harg7 arg8 harg8 arg9 harg9 (word c tb2 i xt2) (wordBefore c tb0 i xt0) (word c tb0 i xt0)
    (sc2.view.writes (Elt Ideal) sc2.view.junk
        (runLive.sl.H12_11 (F := Ideal) c i arg5 harg5 arg6 harg6 arg7 harg7 arg8 harg8 arg9 harg9 f5 f6 f7 f10 f11)) f8 f9
    lo p q hlo hp hq h1 h2 h3 r j
  rw [funext fun j => hid_read c i arg5 harg5 arg6 harg6 arg7 harg7 arg8 harg8 arg9 harg9 f5 f6 f7 f10 f11 sc2.view.junk r j] at h
  exact h

/-- The block of scales after a point with rows. -/
theorem live_ys (r : Fin 256) :
    arg9.view.read (Elt Ideal) (arg9.view.writes (Elt Ideal) f9
        (runLive c i xt0 xt1 xt2 xt3 hc arg5 harg5 arg6 harg6 arg7 harg7 arg8 harg8 arg9 harg9 f5 f6 f7 f8 f9 f10 f11 f12).2.1) (ix2 r 0)
      = if lo ≤ r.val ∨ (i 0).val = 0 ∨ p ≠ q then
          Row.ys (fun j => arg5.view.read (Elt Ideal) f5 (ix2 r j)) (fun k c => arg6.view.read (Elt Ideal) f6 (ix3 0 k c))
            (fun c => arg7.view.read (Elt Ideal) f7 (ix3 0 0 c))
        else arg9.view.read (Elt Ideal) f9 (ix2 r 0) := by
  rw [live_pb2]
  have h := ys_read c i arg5 harg5 arg6 harg6 arg7 harg7 arg8 harg8 arg9 harg9 (word c tb2 i xt2) (wordBefore c tb0 i xt0) (word c tb0 i xt0)
    (sc2.view.writes (Elt Ideal) sc2.view.junk
        (runLive.sl.H12_11 (F := Ideal) c i arg5 harg5 arg6 harg6 arg7 harg7 arg8 harg8 arg9 harg9 f5 f6 f7 f10 f11)) f8 f9
    lo p q hlo hp hq h1 h2 h3 r
  rw [funext fun j => hid_read c i arg5 harg5 arg6 harg6 arg7 harg7 arg8 harg8 arg9 harg9 f5 f6 f7 f10 f11 sc2.view.junk r j] at h
  exact h

end Live

end Cert.KernelIdeal.Point
-- ==== Proof.KVal.lean ====
/-
  What the kernel's region finds in the blocks of its inputs, over the reals: the rows of a point's tile and the matrix and scales of its expert.
-/
module

public import proofs.«01_k».proof.Proof.IdealLive
public import proofs.«01_k».proof.Proof.PlanCover
public import proofs.«01_k».proof.Proof.Hidden
public import Idealize.ShloMosaic.Lib.Pipeline.TableIdle
public import Idealize.ShloMosaic.Lib.Pipeline.ArrRel
public import Idealize.ShloMosaic.Lib.Pipeline.FrameBody
public import Idealize.ShloMosaic.Lib.Pipeline.Value

@[expose] public section

set_option maxRecDepth 16384

noncomputable section

namespace Cert.KernelIdeal.Run

open Cert.KernelIdeal Cert.KernelIdeal.Gen
open Idealize.ShloMosaic Idealize.ShloMosaic.TcCoe
open Idealize.ShloMosaic.Pipeline (RDat)
open Cert.Plan

variable (m : (ℓ : Loc nD τ sig) → Buf (Elt Ideal) ℓ) (hp : Pre m)

theorem pt_coords (t : Fin grid0.N) : (pt (grid0.coords t)).val = t.val := by
  have h := Pipeline.Grid.coords_val (G := grid0) t 0 (S := 1) (B := 288) rfl rfl
  have ht : t.val < 288 := t.isLt
  exact h.trans (by omega)

theorem index0 (t : Fin grid0.N) : ((cfg m (ok m hp)).win 0).index t = ![tile (cn m) t.val, 0] := by
  refine Eq.trans (ix_tile m hp (grid0.coords t)) ?_
  rw [pt_coords]
theorem index1 (t : Fin grid0.N) : ((cfg m (ok m hp)).win 1).index t = ![ex (cn m) t.val, 0, 0] := by
  refine Eq.trans (ix_ex m hp (grid0.coords t)) ?_
  rw [pt_coords]
theorem index2 (t : Fin grid0.N) : ((cfg m (ok m hp)).win 2).index t = ![ex (cn m) t.val, 0, 0] := by
  refine Eq.trans (ix_ex m hp (grid0.coords t)) ?_
  rw [pt_coords]
theorem index3 (t : Fin grid0.N) : ((cfg m (ok m hp)).win 3).index t = ![tile (cn m) t.val, 0] := by
  refine Eq.trans (ix_tile m hp (grid0.coords t)) ?_
  rw [pt_coords]
theorem index4 (t : Fin grid0.N) : ((cfg m (ok m hp)).win 4).index t = ![tile (cn m) t.val, 0] := by
  refine Eq.trans (ix_tile m hp (grid0.coords t)) ?_
  rw [pt_coords]

/-- The arguments. -/
abbrev xA : Vec Ideal S65536x2816 .bf16 := m (0, main_arg0)
abbrev wA : Vec Ideal S32x2816x5632 .fp8e4m3 := m (0, main_arg2)
abbrev sA : Vec Ideal S32x5632 .f32 := m (0, main_arg3)

variable (R : Rel m (ok m hp)) (c : Dev nD) (t : Fin grid0.N)

theorem found0 (hk : ∀ t Y X, R 0 t Y X → X = Y) (Y : Vec Ideal S256x2816 .bf16) (hY : (rdat m (ok m hp) R c).Finds 0 t Y)
    (r : Fin 256) (j : Fin 2816) (Rw : Fin 65536) (hR : Rw.val = tile (cn m) t.val * 256 + r.val) : Y (ix2 r j) = xA m (ix2 Rw j) := by
  obtain ⟨d, rfl⟩ := (rdat m (ok m hp) R c).finds_in_eq_fetched 0 rfl (fun _ _ _ => rfl) hk t Y hY
  have hi : ∀ a : Fin 2, ((((cfg m (ok m hp)).win 0).rect t).emb (ix2 r j) a : ℕ) = (![tile (cn m) t.val, 0] : Fin 2 → ℕ) a * S256x2816.size a + ((ix2 r j : S256x2816.Idx) a).val := fun a =>
    (Pipeline.Window.rect_emb_val ((cfg m (ok m hp)).win 0) t (ix2 r j) a rfl).trans (congrArg (fun f : Fin 2 → ℕ => f a * S256x2816.size a + ((ix2 r j : S256x2816.Idx) a).val) (index0 m hp t))
  have hv : V m c main_arg0 = m (0, main_arg0) := by rw [Subsingleton.elim c 0]; exact (V_all m 0).1.1
  refine Eq.trans (b := (V m c main_arg0 : Vec Ideal S65536x2816 .bf16) ((((cfg m (ok m hp)).win 0).rect t).emb (ix2 r j))) rfl ?_
  rw [hv]
  refine congrArg (xA m) (funext fun a => Fin.ext ?_)
  refine (hi a).trans ?_
  match a with
  | ⟨0, _⟩ => exact hR.symm
  | ⟨1, _⟩ => exact (show 0 * 2816 + j.val = j.val by omega)

theorem found1 (hk : ∀ t Y X, R 1 t Y X → X = Y) (Y : Vec Ideal S1x2816x5632 .fp8e4m3) (hY : (rdat m (ok m hp) R c).Finds 1 t Y)
    (k : Fin 2816) (j : Fin 5632) (e : Fin 32) (he : e.val = ex (cn m) t.val) : Y (ix3 0 k j) = wA m (ix3 e k j) := by
  obtain ⟨d, rfl⟩ := (rdat m (ok m hp) R c).finds_in_eq_fetched 1 rfl (fun _ _ _ => rfl) hk t Y hY
  have hi : ∀ a : Fin 3, ((((cfg m (ok m hp)).win 1).rect t).emb (ix3 0 k j) a : ℕ) = (![ex (cn m) t.val, 0, 0] : Fin 3 → ℕ) a * S1x2816x5632.size a + ((ix3 0 k j : S1x2816x5632.Idx) a).val := fun a =>
    (Pipeline.Window.rect_emb_val ((cfg m (ok m hp)).win 1) t (ix3 0 k j) a rfl).trans (congrArg (fun f : Fin 3 → ℕ => f a * S1x2816x5632.size a + ((ix3 0 k j : S1x2816x5632.Idx) a).val) (index1 m hp t))
  have hv : V m c main_arg2 = m (0, main_arg2) := by rw [Subsingleton.elim c 0]; exact (V_all m 0).1.2.2.1
  refine Eq.trans (b := (V m c main_arg2 : Vec Ideal S32x2816x5632 .fp8e4m3) ((((cfg m (ok m hp)).win 1).rect t).emb (ix3 0 k j))) rfl ?_
  rw [hv]
  refine congrArg (wA m) (funext fun a => Fin.ext ?_)
  refine (hi a).trans ?_
  match a with
  | ⟨0, _⟩ => exact (show ex (cn m) t.val * 1 + 0 = e.val by omega)
  | ⟨1, _⟩ => exact (show 0 * 2816 + k.val = k.val by omega)
  | ⟨2, _⟩ => exact (show 0 * 5632 + j.val = j.val by omega)

theorem found2 (hk : ∀ t Y X, R 2 t Y X → X = Y) (Y : Vec Ideal S1x1x5632 .f32) (hY : (rdat m (ok m hp) R c).Finds 2 t Y)
    (j : Fin 5632) (e : Fin 32) (he : e.val = ex (cn m) t.val) : Y (ix3 0 0 j) = sA m (ix2 e j) := by
  obtain ⟨d, rfl⟩ := (rdat m (ok m hp) R c).finds_in_eq_fetched 2 rfl (fun _ _ _ => rfl) hk t Y hY
  have hi : ∀ a : Fin 3, ((((cfg m (ok m hp)).win 2).rect t).emb (ix3 0 0 j) a : ℕ) = (![ex (cn m) t.val, 0, 0] : Fin 3 → ℕ) a * S1x1x5632.size a + ((ix3 0 0 j : S1x1x5632.Idx) a).val := fun a =>
    (Pipeline.Window.rect_emb_val ((cfg m (ok m hp)).win 2) t (ix3 0 0 j) a rfl).trans (congrArg (fun f : Fin 3 → ℕ => f a * S1x1x5632.size a + ((ix3 0 0 j : S1x1x5632.Idx) a).val) (index2 m hp t))
  have hv : V m c main_v68 = shapeCast S32x1x5632 (sA m) shapeCasts_S32x5632_S32x1x5632 := by rw [Subsingleton.elim c 0]; exact (V_all m 0).2.2.2.2.2
  refine Eq.trans (b := (V m c main_v68 : Vec Ideal S32x1x5632 .f32) ((((cfg m (ok m hp)).win 2).rect t).emb (ix3 0 0 j))) rfl ?_
  rw [hv]
  have e1 : (((cfg m (ok m hp)).win 2).rect t).emb (ix3 0 0 j) = ix3 e 0 j := funext fun a => Fin.ext (by
    refine (hi a).trans ?_
    match a with
    | ⟨0, _⟩ => exact (show ex (cn m) t.val * 1 + 0 = e.val by omega)
    | ⟨1, _⟩ => exact (show 0 * 1 + 0 = 0 by omega)
    | ⟨2, _⟩ => exact (show 0 * 5632 + j.val = j.val by omega))
  refine (congrArg (shapeCast S32x1x5632 (sA m) shapeCasts_S32x5632_S32x1x5632) e1).trans ?_
  pointwise

/-- The table read at the point before. -/
theorem pt_emb2 (i : grid0.Coords) (k : S1.Idx) : (Rect.unit (s := S288) (k0_off2 i) S1.size (k0_off2_inb i)).emb k = ix1 (⟨(pt i).val - 1, by omega⟩ : Fin 288) := by
  have h : ∀ n : Fin 288, (Scalar.indexCast (Scalar.maxsi (Scalar.subi (BitVec.ofNat 32 n.val) 1#32) 0#32)).toNat = n.val - 1 := by decide +kernel
  funext a
  match a with
  | ⟨0, _⟩ =>
    apply Fin.ext
    have hk : (k 0).val = 0 := by have := (k 0).isLt; change (k 0).val < 1 at this; omega
    have := h (pt i)
    have e : k0_off2 i 0 = (pt i).val - 1 := this
    show k0_off2 i 0 + 1 * (k 0).val = (pt i).val - 1
    omega

theorem word_eq0 (i : grid0.Coords) (x : IVec S288 32) : word (F := Ideal) c tb0 i x = x (ix1 (pt i)) := congrArg x (pt_emb i _)
theorem wordBefore_eq (i : grid0.Coords) (x : IVec S288 32) : wordBefore (F := Ideal) c tb0 i x = x (ix1 (⟨(pt i).val - 1, by omega⟩ : Fin 288)) := congrArg x (pt_emb2 i _)

end Cert.KernelIdeal.Run
-- ==== Proof.KOut.lean ====
/-
  What the kernel leaves in its results, over the reals: at every row the row function of the row's expert.
-/
module

public import proofs.«01_k».proof.Proof.KVal
public import proofs.«01_k».proof.Proof.IdealQuiet

@[expose] public section

set_option maxRecDepth 16384

noncomputable section

namespace Cert.KernelIdeal.Run

open Cert.KernelIdeal Cert.KernelIdeal.Gen
open Idealize.ShloMosaic Idealize.ShloMosaic.TcCoe
open Idealize.ShloMosaic.Pipeline (RDat)
open Cert.Plan

variable (m : (ℓ : Loc nD τ sig) → Buf (Elt Ideal) ℓ) (hp : Pre m)

/-- A row of the result under an expert. -/
def rowY (Rw : Fin 65536) (e : Fin 32) (j : Fin 2816) : EReal :=
  Row.y (fun j => xA m (ix2 Rw j)) (fun k c => wA m (ix3 e k c)) (fun c => sA m (ix2 e c)) j
def rowS (Rw : Fin 65536) (e : Fin 32) : EReal :=
  Row.ys (fun j => xA m (ix2 Rw j)) (fun k c => wA m (ix3 e k c)) (fun c => sA m (ix2 e c))

/-- The rows that a point writes. -/
def Own (t r : ℕ) : Prop := lo (cn m) t ≤ r ∨ t = 0 ∨ tile (cn m) (t - 1) ≠ tile (cn m) t

/-- What a point leaves in a block of `n` columns, from what it finds: its rows are `f`'s, the others as found. -/
def Step {n : ℕ} (f : Fin 65536 → Fin 32 → Fin n → EReal) (t : ℕ) (Y X : Fin 256 → Fin n → EReal) : Prop :=
  (¬ t < total (cn m) → X = Y) ∧ (t < total (cn m) → ∀ (r : Fin 256) (j : Fin n) (Rw : Fin 65536) (e : Fin 32), Rw.val = tile (cn m) t * 256 + r.val → e.val = ex (cn m) t →
    (Own m t r.val → X r j = f Rw e j) ∧ (¬ Own m t r.val → X r j = Y r j))

/-- The rows of a tile that are done are right. -/
def Done {n : ℕ} (f : Fin 65536 → Fin 32 → Fin n → EReal) (t : ℕ) (X : Fin 256 → Fin n → EReal) : Prop :=
  ∀ (r : Fin 256) (j : Fin n) (Rw : Fin 65536) (e : Fin 32), r.val < full (cn m) t → Rw.val = tile (cn m) t * 256 + r.val → e.val = exOf (cn m) Rw.val → X r j = f Rw e j

include hp in
/-- A point's step keeps its tile's rows right. -/
theorem done_step {n : ℕ} (f : Fin 65536 → Fin 32 → Fin n → EReal) (t : ℕ) (Y X : Fin 256 → Fin n → EReal)
    (hs : Step m f t Y X) (hY : ∀ u, t = u + 1 → tile (cn m) (u + 1) = tile (cn m) u → Done m f u Y) : Done m f t X := by
  have hsum := cn_sum m hp
  intro r j Rw e hr hR he
  by_cases hl : t < total (cn m)
  · obtain ⟨h1, h2⟩ := hs.2 hl r j Rw ⟨ex (cn m) t, ex_lt (cn m) hsum t⟩ hR rfl
    have hf : full (cn m) t = hi (cn m) t := by unfold full; rw [if_pos hl]
    by_cases ho : Own m t r.val
    · rw [h1 ho]
      have hlo : lo (cn m) t ≤ r.val := by
        rcases ho with h | h | h
        · exact h
        · subst h; rw [lo_first (cn m) hsum]; exact Nat.zero_le _
        · cases t with
          | zero => rw [lo_first (cn m) hsum]; exact Nat.zero_le _
          | succ u =>
            have h' : tile (cn m) u ≠ tile (cn m) (u + 1) := h
            rcases live_step (cn m) hsum hl with g | g
            · exact absurd g.1.symm h'
            · rw [g.2.1]; exact Nat.zero_le _
      have hx : ex (cn m) t = e.val := by
        rw [he, hR]
        exact (exOf_row (cn m) hsum hl hlo (hf ▸ hr)).symm
      have : (⟨ex (cn m) t, ex_lt (cn m) hsum t⟩ : Fin 32) = e := Fin.ext hx
      rw [this]
    · rw [h2 ho]
      unfold Own at ho
      cases t with
      | zero => exact absurd (Or.inr (Or.inl rfl)) ho
      | succ u =>
        have hn : tile (cn m) u = tile (cn m) (u + 1) := by
          by_contra h; exact ho (Or.inr (Or.inr h))
        have hlt : r.val < lo (cn m) (u + 1) := by
          by_contra h; exact ho (Or.inl (by omega))
        refine hY u rfl hn.symm r j Rw e ?_ (by rw [hn]; exact hR) he
        rcases live_step (cn m) hsum hl with g | g
        · rw [← g.2]; exact hlt
        · omega
  · rw [hs.1 hl]
    have h0 := total_pos (cn m) hsum
    cases t with
    | zero => omega
    | succ u =>
      obtain ⟨g1, g2⟩ := dead_step (cn m) hsum hl
      exact hY u rfl g1 r j Rw e (by rw [g2]; exact r.isLt) (by rw [← g1]; exact hR) he

/-- The relation of the region: the inputs stay, the outputs step. -/
def rel : Rel m (ok m hp) := fun w t => match w with
  | ⟨0, _⟩ => fun Y X => X = Y
  | ⟨1, _⟩ => fun Y X => X = Y
  | ⟨2, _⟩ => fun Y X => X = Y
  | ⟨3, _⟩ => fun (Y X : Vec Ideal S256x2816 .fp8e4m3) => Step m (rowY m) t.val (fun r j => Y (ix2 r j)) (fun r j => X (ix2 r j))
  | ⟨4, _⟩ => fun (Y X : Vec Ideal S256x1 .f32) => Step m (n := 1) (fun Rw e _ => rowS m Rw e) t.val (fun r j => Y (ix2 r j)) (fun r j => X (ix2 r j))

theorem step_idle {n : ℕ} (f : Fin 65536 → Fin 32 → Fin n → EReal) (t : ℕ) (Y : Fin 256 → Fin n → EReal) (h : ¬ t < total (cn m)) : Step m f t Y Y :=
  ⟨fun _ => rfl, fun h' => absurd h' h⟩

theorem rel_idle (c : Dev nD) : Idle m (ok m hp) (rel m hp) c := by
  intro t ht Y _ w
  have hl : ¬ t.val < total (cn m) := fun h => ht ((live_iff m hp c (grid0.coords t)).2 (by rw [pt_coords]; exact h))
  match w with
  | ⟨0, _⟩ => exact rfl
  | ⟨1, _⟩ => exact rfl
  | ⟨2, _⟩ => exact rfl
  | ⟨3, _⟩ => exact step_idle m _ _ _ hl
  | ⟨4, _⟩ => exact step_idle m _ _ _ hl

theorem rel_runs (c : Dev nD) : Runs m (ok m hp) (rel m hp) c := by
  intro t hc Y hY f5 f6 f7 f8 f9 f10 f11 f12 e5 e6 e7 e8 e9
  have hl : t.val < total (cn m) := by
    have h := (live_iff m hp c (grid0.coords t)).1 hc
    rwa [pt_coords] at h
  have hpt : pt (grid0.coords t) = (⟨t.val, t.isLt⟩ : Fin 288) := Fin.ext (pt_coords t)
  have hlo : word c tb2 (grid0.coords t) (tbl m 2) = BitVec.ofNat 32 (lo (cn m) t.val) := by
    refine (word_eq c (grid0.coords t) (tbl m 2)).trans ((tbl_lo m hp (pt (grid0.coords t))).trans ?_)
    rw [pt_coords]
  have hq : word c tb0 (grid0.coords t) (tbl m 0) = BitVec.ofNat 32 (tile (cn m) t.val) := by
    refine (word_eq0 c (grid0.coords t) (tbl m 0)).trans ((tbl_tile m hp (pt (grid0.coords t))).trans ?_)
    rw [pt_coords]
  have hb : wordBefore c tb0 (grid0.coords t) (tbl m 0) = BitVec.ofNat 32 (tile (cn m) (t.val - 1)) := by
    refine (wordBefore_eq c (grid0.coords t) (tbl m 0)).trans ((tbl_tile m hp _).trans ?_)
    show BitVec.ofNat 32 (tile (cn m) ((pt (grid0.coords t)).val - 1)) = _
    rw [pt_coords]
  have b1 := lo_le (cn m) t.val
  have b2 := tile_lt (cn m) (cn_sum m hp) (t.val - 1)
  have b3 := tile_lt (cn m) (cn_sum m hp) t.val
  have h0 : (grid0.coords t 0).val = t.val := pt_coords t
  have x0 : ∀ (r : Fin 256) (Rw : Fin 65536), Rw.val = tile (cn m) t.val * 256 + r.val →
      (fun j => (st0 m (ok m hp) t).view.read (Elt Ideal) f5 (ix2 r j)) = fun j => xA m (ix2 Rw j) := fun r Rw hR => funext fun j =>
    (congrFun e5 (ix2 r j)).trans (found0 m hp (rel m hp) c t (fun _ _ _ h => h) (Y 0) (hY 0) r j Rw hR)
  have x1 : ∀ e : Fin 32, e.val = ex (cn m) t.val →
      (fun (k : Fin 2816) (j : Fin 5632) => (st1 m (ok m hp) t).view.read (Elt Ideal) f6 (ix3 0 k j)) = fun k j => wA m (ix3 e k j) := fun e he => funext fun k => funext fun j =>
    (congrFun e6 (ix3 0 k j)).trans (found1 m hp (rel m hp) c t (fun _ _ _ h => h) (Y 1) (hY 1) k j e he)
  have x2 : ∀ e : Fin 32, e.val = ex (cn m) t.val →
      (fun j : Fin 5632 => (st2 m (ok m hp) t).view.read (Elt Ideal) f7 (ix3 0 0 j)) = fun j => sA m (ix2 e j) := fun e he => funext fun j =>
    (congrFun e7 (ix3 0 0 j)).trans (found2 m hp (rel m hp) c t (fun _ _ _ h => h) (Y 2) (hY 2) j e he)
  refine ⟨rfl, rfl, rfl, ⟨fun h => absurd hl h, fun _ r j Rw e hR he => ?_⟩, ⟨fun h => absurd hl h, fun _ r j Rw e hR he => ?_⟩⟩
  · have h := Point.live_y c (grid0.coords t) (st0 m (ok m hp) t) (hstage0_0 _) (st1 m (ok m hp) t) (hstage0_1 _) (st2 m (ok m hp) t) (hstage0_2 _)
      (st3 m (ok m hp) t) (hstage0_3 _) (st4 m (ok m hp) t) (hstage0_4 _) f5 f6 f7 f10 f11 (tbl m 0) (tbl m 1) (tbl m 2) (tbl m 3) hc f8 f9 f12
      (lo (cn m) t.val) (tile (cn m) (t.val - 1)) (tile (cn m) t.val) hlo hb hq (by omega) (by omega) (by omega) r j
    rw [x0 r Rw hR, x1 e he, x2 e he, h0] at h
    exact ⟨fun ho => h.trans (if_pos ho), fun ho => h.trans ((if_neg ho).trans (congrFun e8 (ix2 r j)))⟩
  · obtain rfl : j = 0 := Subsingleton.elim _ _
    have h := Point.live_ys c (grid0.coords t) (st0 m (ok m hp) t) (hstage0_0 _) (st1 m (ok m hp) t) (hstage0_1 _) (st2 m (ok m hp) t) (hstage0_2 _)
      (st3 m (ok m hp) t) (hstage0_3 _) (st4 m (ok m hp) t) (hstage0_4 _) f5 f6 f7 f10 f11 (tbl m 0) (tbl m 1) (tbl m 2) (tbl m 3) hc f8 f9 f12
      (lo (cn m) t.val) (tile (cn m) (t.val - 1)) (tile (cn m) t.val) hlo hb hq (by omega) (by omega) (by omega) r
    rw [x0 r Rw hR, x1 e he, x2 e he, h0] at h
    exact ⟨fun ho => h.trans (if_pos ho), fun ho => h.trans ((if_neg ho).trans (congrFun e9 (ix2 r 0)))⟩

end Cert.KernelIdeal.Run
-- ==== Proof.KArr.lean ====
/-
  The kernel's result arrays, over the reals, after the whole run.
-/
module

public import proofs.«01_k».proof.Proof.KOut

@[expose] public section

set_option maxRecDepth 16384

noncomputable section

namespace Cert.KernelIdeal.Run

open Cert.KernelIdeal Cert.KernelIdeal.Gen
open Idealize.ShloMosaic Idealize.ShloMosaic.TcCoe
open Idealize.ShloMosaic.Pipeline (RDat)
open Cert.Plan

variable (m : (ℓ : Loc nD τ sig) → Buf (Elt Ideal) ℓ) (hp : Pre m)

/-- A result's block is written back when its tile changes or the grid ends. -/
theorem flush3 (t : Fin grid0.N) : ((cfg m (ok m hp)).win 3).flush t = true ↔ (t.val + 1 = 288 ∨ tile (cn m) (t.val + 1) ≠ tile (cn m) t.val) := by
  have e : ((cfg m (ok m hp)).win 3).flush t = (true && (decide (t.val + 1 = grid0.N) || decide (∃ h : t.val + 1 < grid0.N,
    ((cfg m (ok m hp)).win 3).index ⟨t.val + 1, h⟩ ≠ ((cfg m (ok m hp)).win 3).index t))) := rfl
  rw [e, Bool.true_and, Bool.or_eq_true, decide_eq_true_iff, decide_eq_true_iff]
  have ht : t.val < 288 := t.isLt
  constructor
  · rintro (h | ⟨h, hn⟩)
    · exact Or.inl h
    · refine Or.inr fun he => hn ?_
      rw [index3 m hp ⟨t.val + 1, h⟩, index3 m hp t]
      exact congrArg (fun n : ℕ => (![n, 0] : Fin 2 → ℕ)) he
  · rintro (h | h)
    · exact Or.inl h
    · by_cases h' : t.val + 1 < 288
      · exact Or.inr ⟨h', fun hh => h (congrFun ((index3 m hp ⟨t.val + 1, h'⟩).symm.trans (hh.trans (index3 m hp t))) 0)⟩
      · exact Or.inl (show t.val + 1 = 288 by omega)
theorem flush4 (t : Fin grid0.N) : ((cfg m (ok m hp)).win 4).flush t = true ↔ (t.val + 1 = 288 ∨ tile (cn m) (t.val + 1) ≠ tile (cn m) t.val) := by
  have e : ((cfg m (ok m hp)).win 4).flush t = (true && (decide (t.val + 1 = grid0.N) || decide (∃ h : t.val + 1 < grid0.N,
    ((cfg m (ok m hp)).win 4).index ⟨t.val + 1, h⟩ ≠ ((cfg m (ok m hp)).win 4).index t))) := rfl
  rw [e, Bool.true_and, Bool.or_eq_true, decide_eq_true_iff, decide_eq_true_iff]
  have ht : t.val < 288 := t.isLt
  constructor
  · rintro (h | ⟨h, hn⟩)
    · exact Or.inl h
    · refine Or.inr fun he => hn ?_
      rw [index4 m hp ⟨t.val + 1, h⟩, index4 m hp t]
      exact congrArg (fun n : ℕ => (![n, 0] : Fin 2 → ℕ)) he
  · rintro (h | h)
    · exact Or.inl h
    · by_cases h' : t.val + 1 < 288
      · exact Or.inr ⟨h', fun hh => h (congrFun ((index4 m hp ⟨t.val + 1, h'⟩).symm.trans (hh.trans (index4 m hp t))) 0)⟩
      · exact Or.inl (show t.val + 1 = 288 by omega)

variable (c : Dev nD)

/-- What is left in a block of codes has its tile's rows right. -/
theorem leaves3 (n : ℕ) (t : Fin grid0.N) (hn : t.val = n) (X : Vec Ideal S256x2816 .fp8e4m3) (hX : (rdat m (ok m hp) (rel m hp) c).Leaves 3 t X) :
    Done m (rowY m) t.val (fun r j => X (ix2 r j)) := by
  induction n generalizing t X with
  | zero =>
    obtain ⟨Y, hY, hs⟩ := hX
    exact done_step m hp _ _ _ _ hs fun u hu => by omega
  | succ n ih =>
    obtain ⟨Y, hY, hs⟩ := hX
    refine done_step m hp _ _ _ _ hs fun u hu hu' => ?_
    have h1 : ((cfg m (ok m hp)).win 3).flush ⟨t.val - 1, Nat.lt_of_le_of_lt (Nat.sub_le _ _) t.isLt⟩ = true ∨ _ :=
      ((rdat m (ok m hp) (rel m hp) c).finds_of_pos (w := 3) (t := t) rfl (by omega) Y).1 hY
    have ht : t.val < 288 := t.isLt
    have hv : t.val - 1 = u := by omega
    rcases h1 with h | h
    · have h' : t.val - 1 + 1 = 288 ∨ tile (cn m) (t.val - 1 + 1) ≠ tile (cn m) (t.val - 1) := (flush3 m hp _).1 h
      rw [hv] at h'
      omega
    · have := ih ⟨t.val - 1, Nat.lt_of_le_of_lt (Nat.sub_le _ _) t.isLt⟩ (show t.val - 1 = n by omega) Y h
      have h2 : Done m (rowY m) (t.val - 1) (fun r j => Y (ix2 r j)) := this
      rwa [hv] at h2
theorem leaves4 (n : ℕ) (t : Fin grid0.N) (hn : t.val = n) (X : Vec Ideal S256x1 .f32) (hX : (rdat m (ok m hp) (rel m hp) c).Leaves 4 t X) :
    Done m (n := 1) (fun Rw e _ => rowS m Rw e) t.val (fun r j => X (ix2 r j)) := by
  induction n generalizing t X with
  | zero =>
    obtain ⟨Y, hY, hs⟩ := hX
    exact done_step m hp _ _ _ _ hs fun u hu => by omega
  | succ n ih =>
    obtain ⟨Y, hY, hs⟩ := hX
    refine done_step m hp _ _ _ _ hs fun u hu hu' => ?_
    have h1 : ((cfg m (ok m hp)).win 4).flush ⟨t.val - 1, Nat.lt_of_le_of_lt (Nat.sub_le _ _) t.isLt⟩ = true ∨ _ :=
      ((rdat m (ok m hp) (rel m hp) c).finds_of_pos (w := 4) (t := t) rfl (by omega) Y).1 hY
    have ht : t.val < 288 := t.isLt
    have hv : t.val - 1 = u := by omega
    rcases h1 with h | h
    · have h' : t.val - 1 + 1 = 288 ∨ tile (cn m) (t.val - 1 + 1) ≠ tile (cn m) (t.val - 1) := (flush4 m hp _).1 h
      rw [hv] at h'
      omega
    · have := ih ⟨t.val - 1, Nat.lt_of_le_of_lt (Nat.sub_le _ _) t.isLt⟩ (show t.val - 1 = n by omega) Y h
      have h2 : Done m (n := 1) (fun Rw e _ => rowS m Rw e) (t.val - 1) (fun r j => Y (ix2 r j)) := this
      rwa [hv] at h2

/-- Where a block's element lies in the array of the codes. -/
theorem emb3 (t : Fin grid0.N) (y : S256x2816.Idx) (i : S65536x2816.Idx) (h : (((cfg m (ok m hp)).win 3).blk t).view.emb y = i) :
    (i 0).val = tile (cn m) t.val * 256 + (y 0).val ∧ (i 1).val = (y 1).val := by
  have hE : ∀ a : Fin 2, ((((cfg m (ok m hp)).win 3).rect t).emb y a : ℕ) = (![tile (cn m) t.val, 0] : Fin 2 → ℕ) a * S256x2816.size a + (y a).val := fun a =>
    (Pipeline.Window.rect_emb_val ((cfg m (ok m hp)).win 3) t y a rfl).trans (congrArg (fun f : Fin 2 → ℕ => f a * S256x2816.size a + (y a).val) (index3 m hp t))
  have h0 : (i 0).val = tile (cn m) t.val * 256 + (y 0).val := (congrArg (fun i : S65536x2816.Idx => (i 0).val) h).symm.trans (hE 0)
  have h1 : (i 1).val = 0 * 2816 + (y 1).val := (congrArg (fun i : S65536x2816.Idx => (i 1).val) h).symm.trans (hE 1)
  exact ⟨h0, by omega⟩

/-- Every index of the codes lies in a block that is written back. -/
theorem cover3 (i : S65536x2816.Idx) : ∃ t : Fin grid0.N, ((cfg m (ok m hp)).win 3).flush t = true ∧ i ∈ (((cfg m (ok m hp)).win 3).blk t).view.set := by
  have hi0 : (i 0).val < 65536 := (i 0).isLt
  have hi1 : (i 1).val < 2816 := (i 1).isLt
  obtain ⟨u, hu, hT, hl⟩ := tile_last (cn m) (cn_sum m hp) (T := (i 0).val / 256) (by omega)
  have k0 : tile (cn m) u * 256 ≤ (i 0).val ∧ (i 0).val < tile (cn m) u * 256 + 256 := by rw [hT]; omega
  have k1 : 0 * 2816 ≤ (i 1).val ∧ (i 1).val < 0 * 2816 + 2816 := ⟨(Nat.zero_mul _).trans_le (Nat.zero_le _), hi1.trans_eq ((congrArg (· + 2816) (Nat.zero_mul 2816)).trans (Nat.zero_add 2816)).symm⟩
  have key : ∀ a : Fin 2, (![tile (cn m) u, 0] : Fin 2 → ℕ) a * S256x2816.size a ≤ (i a).val ∧ (i a).val < (![tile (cn m) u, 0] : Fin 2 → ℕ) a * S256x2816.size a + S256x2816.size a :=
    Fin.forall_fin_two.2 ⟨k0, k1⟩
  have hx : ((cfg m (ok m hp)).win 3).index (⟨u, hu⟩ : Fin grid0.N) = (![tile (cn m) u, 0] : Fin 2 → ℕ) := index3 m hp (⟨u, hu⟩ : Fin grid0.N)
  refine ⟨⟨u, hu⟩, (flush3 m hp ⟨u, hu⟩).2 hl, ?_⟩
  refine (Pipeline.Window.emb_mem_blk_iff ((cfg m (ok m hp)).win 3) (⟨u, hu⟩ : Fin grid0.N) i rfl).2 fun (a : Fin 2) => ?_
  have key := key a
  rw [← hx] at key
  exact key

/-- The codes after the run. -/
theorem arr3 (after : (w : Fin (cfg m (ok m hp)).W) → Fin (cfg m (ok m hp)).N → ((cfg m (ok m hp)).win w).block.Idx → Elt Ideal ((cfg m (ok m hp)).win w).elt)
    (ha : ∀ u, ((cfg m (ok m hp)).win 3).flush u = true → (rdat m (ok m hp) (rel m hp) c).Leaves 3 u (after 3 u))
    (Rw : Fin 65536) (j : Fin 2816) (e : Fin 32) (he : e.val = exOf (cn m) Rw.val) :
    (((rdat m (ok m hp) (rel m hp) c).withAfter after).arrAt 3 (cfg m (ok m hp)).N : Vec Ideal S65536x2816 .fp8e4m3) (ix2 Rw j) = rowY m Rw e j := by
  refine ((rdat m (ok m hp) (rel m hp) c).withAfter after).arrAt_forall_of_cover 3
    (fun (i : S65536x2816.Idx) (v : EReal) => ∀ (Rw : Fin 65536) (j : Fin 2816) (e : Fin 32), i = ix2 Rw j → e.val = exOf (cn m) Rw.val → v = rowY m Rw e j)
    (fun t hf (y : S256x2816.Idx) Rw j e hi he => ?_) (cover3 m hp) (ix2 Rw j) Rw j e rfl he
  obtain ⟨h0, h1⟩ := emb3 m hp t y (ix2 Rw j) hi
  have hj : (y 1 : Fin 2816) = j := Fin.ext h1.symm
  have hd := leaves3 m hp c t.val t rfl (after 3 t) (ha t hf) (y 0) (y 1) Rw e
    (by rw [full_last (cn m) (cn_sum m hp) ((flush3 m hp t).1 hf)]; exact (y 0).isLt) h0 he
  rw [← hj]
  refine Eq.trans (b := (after 3 t : Vec Ideal S256x2816 .fp8e4m3) y) rfl (Eq.trans ?_ hd)
  exact congrArg (after 3 t : Vec Ideal S256x2816 .fp8e4m3) (eq_ix2 y)

/-- Where a block's element lies in the array of the scales. -/
theorem emb4 (t : Fin grid0.N) (y : S256x1.Idx) (i : S65536x1.Idx) (h : (((cfg m (ok m hp)).win 4).blk t).view.emb y = i) :
    (i 0).val = tile (cn m) t.val * 256 + (y 0).val ∧ (i 1).val = (y 1).val := by
  have hE : ∀ a : Fin 2, ((((cfg m (ok m hp)).win 4).rect t).emb y a : ℕ) = (![tile (cn m) t.val, 0] : Fin 2 → ℕ) a * S256x1.size a + (y a).val := fun a =>
    (Pipeline.Window.rect_emb_val ((cfg m (ok m hp)).win 4) t y a rfl).trans (congrArg (fun f : Fin 2 → ℕ => f a * S256x1.size a + (y a).val) (index4 m hp t))
  have h0 : (i 0).val = tile (cn m) t.val * 256 + (y 0).val := (congrArg (fun i : S65536x1.Idx => (i 0).val) h).symm.trans (hE 0)
  have h1 : (i 1).val = 0 * 1 + (y 1).val := (congrArg (fun i : S65536x1.Idx => (i 1).val) h).symm.trans (hE 1)
  exact ⟨h0, by omega⟩

/-- Every index of the scales lies in a block that is written back. -/
theorem cover4 (i : S65536x1.Idx) : ∃ t : Fin grid0.N, ((cfg m (ok m hp)).win 4).flush t = true ∧ i ∈ (((cfg m (ok m hp)).win 4).blk t).view.set := by
  have hi0 : (i 0).val < 65536 := (i 0).isLt
  have hi1 : (i 1).val < 1 := (i 1).isLt
  obtain ⟨u, hu, hT, hl⟩ := tile_last (cn m) (cn_sum m hp) (T := (i 0).val / 256) (by omega)
  have k0 : tile (cn m) u * 256 ≤ (i 0).val ∧ (i 0).val < tile (cn m) u * 256 + 256 := by rw [hT]; omega
  have k1 : 0 * 1 ≤ (i 1).val ∧ (i 1).val < 0 * 1 + 1 := ⟨(Nat.zero_mul _).trans_le (Nat.zero_le _), hi1.trans_eq ((congrArg (· + 1) (Nat.zero_mul 1)).trans (Nat.zero_add 1)).symm⟩
  have key : ∀ a : Fin 2, (![tile (cn m) u, 0] : Fin 2 → ℕ) a * S256x1.size a ≤ (i a).val ∧ (i a).val < (![tile (cn m) u, 0] : Fin 2 → ℕ) a * S256x1.size a + S256x1.size a :=
    Fin.forall_fin_two.2 ⟨k0, k1⟩
  have hx : ((cfg m (ok m hp)).win 4).index (⟨u, hu⟩ : Fin grid0.N) = (![tile (cn m) u, 0] : Fin 2 → ℕ) := index4 m hp (⟨u, hu⟩ : Fin grid0.N)
  refine ⟨⟨u, hu⟩, (flush4 m hp ⟨u, hu⟩).2 hl, ?_⟩
  refine (Pipeline.Window.emb_mem_blk_iff ((cfg m (ok m hp)).win 4) (⟨u, hu⟩ : Fin grid0.N) i rfl).2 fun (a : Fin 2) => ?_
  have key := key a
  rw [← hx] at key
  exact key

/-- The scales after the run. -/
theorem arr4 (after : (w : Fin (cfg m (ok m hp)).W) → Fin (cfg m (ok m hp)).N → ((cfg m (ok m hp)).win w).block.Idx → Elt Ideal ((cfg m (ok m hp)).win w).elt)
    (ha : ∀ u, ((cfg m (ok m hp)).win 4).flush u = true → (rdat m (ok m hp) (rel m hp) c).Leaves 4 u (after 4 u))
    (Rw : Fin 65536) (j : Fin 1) (e : Fin 32) (he : e.val = exOf (cn m) Rw.val) :
    (((rdat m (ok m hp) (rel m hp) c).withAfter after).arrAt 4 (cfg m (ok m hp)).N : Vec Ideal S65536x1 .f32) (ix2 Rw j) = (fun (Rw : Fin 65536) (e : Fin 32) (_ : Fin 1) => rowS m Rw e) Rw e j := by
  refine ((rdat m (ok m hp) (rel m hp) c).withAfter after).arrAt_forall_of_cover 4
    (fun (i : S65536x1.Idx) (v : EReal) => ∀ (Rw : Fin 65536) (j : Fin 1) (e : Fin 32), i = ix2 Rw j → e.val = exOf (cn m) Rw.val → v = (fun (Rw : Fin 65536) (e : Fin 32) (_ : Fin 1) => rowS m Rw e) Rw e j)
    (fun t hf (y : S256x1.Idx) Rw j e hi he => ?_) (cover4 m hp) (ix2 Rw j) Rw j e rfl he
  obtain ⟨h0, h1⟩ := emb4 m hp t y (ix2 Rw j) hi
  have hj : (y 1 : Fin 1) = j := Fin.ext h1.symm
  have hd := leaves4 m hp c t.val t rfl (after 4 t) (ha t hf) (y 0) (y 1) Rw e
    (by rw [full_last (cn m) (cn_sum m hp) ((flush4 m hp t).1 hf)]; exact (y 0).isLt) h0 he
  rw [← hj]
  refine Eq.trans (b := (after 4 t : Vec Ideal S256x1 .f32) y) rfl (Eq.trans ?_ hd)
  exact congrArg (after 4 t : Vec Ideal S256x1 .f32) (eq_ix2 y)

end Cert.KernelIdeal.Run
-- ==== Proof.KEnd.lean ====
/-
  The kernel's run over the reals, with its two results named.
-/
module

public import proofs.«01_k».proof.Proof.KArr

@[expose] public section

set_option maxRecDepth 16384

noncomputable section

namespace Cert.KernelIdeal.Run

open Cert.KernelIdeal Cert.KernelIdeal.Gen
open Idealize.ShloMosaic Idealize.ShloMosaic.TcCoe Idealize.SL.Sem
open Idealize.ShloMosaic.Pipeline (RDat)
open Cert.Plan

variable (m : (ℓ : Loc nD τ sig) → Buf (Elt Ideal) ℓ) (ρ : Dev nD → PrngReg) (hp : Pre m)

/-- The expert of a row. -/
def expert (R : Fin 65536) : Fin 32 := ⟨exOf (cn m) R.val, (count_spec (cn m) (by rw [cn_sum m hp]; exact R.isLt)).1⟩

/-- The results: each row by its own expert. -/
def outY : Vec Ideal S65536x2816 .fp8e4m3 := fun i => rowY m (i 0) (expert m hp (i 0)) (i 1)
def outS : Vec Ideal S65536x1 .f32 := fun i => rowS m (i 0) (expert m hp (i 0))

theorem results (r : PUnit × MemSt nD τ sig (Elt Ideal)) (h : RDat.FramePost (cfg m (ok m hp)) (rdat m (ok m hp) (rel m hp)) (V m) r) (c : Dev nD) :
    r.2.mem ((c.tc : Thread nD τ).loc main_v69_0) = outY m hp ∧ r.2.mem ((c.tc : Thread nD τ).loc main_v69_1) = outS m hp := by
  obtain ⟨after, hL, hA⟩ := RDat.FramePost.exists_exact h c
  constructor
  · refine (hA 3).trans (funext fun (i : S65536x2816.Idx) => ?_)
    rw [ValueIdx.eq_ix2 i]
    exact arr3 m hp c after (hL 3) (i 0) (i 1) (expert m hp (i 0)) rfl
  · refine (hA 4).trans (funext fun (i : S65536x1.Idx) => ?_)
    rw [ValueIdx.eq_ix2 i]
    exact arr4 m hp c after (hL 4) (i 0) (i 1) (expert m hp (i 0)) rfl

/-- The kernel leaves its results in its result arrays and its arguments as they were. -/
theorem values :
    θ_run defs (onTc (τ := τ) (main (F := Ideal))) (s₀ m ρ) (fun r => ∀ c : Dev nD,
      r.2.mem ((c.tc : Thread nD τ).loc main_v69_0) = outY m hp
      ∧ r.2.mem ((c.tc : Thread nD τ).loc main_v69_1) = outS m hp
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine θ_run_mono (run_main m ρ (ok m hp) (rel m hp) (rel_idle m hp) (rel_runs m hp)) fun r h c => ?_
  have h1 := results m hp r h.1 c
  exact ⟨h1.1, h1.2, args_of_post m (ok m hp) (rel m hp) r h.1 c⟩

end Cert.KernelIdeal.Run
-- ==== Proof.RefPick.lean ====
/-
  The reference's choice of a row's expert, and the gated hidden row, read over the reals.
-/
module

public import proofs.«01_k».proof.Proof.Row
public import proofs.«01_k».proof.Proof.Gen.ReferenceIdeal.Value
public import Idealize.ShloMosaic.Lib.Pointwise
public import Idealize.ShloMosaic.Lib.MatmulPlain
public import Idealize.ShloMosaic.Lib.WordCmp
public import Idealize.ShloMosaic.Lib.Pipeline.ValueKit.Tiles

@[expose] public section

set_option maxRecDepth 16384

noncomputable section

namespace Cert.ReferenceIdeal.Body

open Cert.ReferenceIdeal Cert.ReferenceIdeal.Gen
open Idealize.ShloMosaic Idealize.ShloMosaic.TcCoe
open Cert.Scale Cert.Row

/-- Expert `e`'s mask over the rows. -/
def mask (x0 : Vec Ideal S65536x1 .i32) (e : ℕ) : IVec S65536x5632 1 :=
  broadcastTo S65536x5632 (shapeCast S65536x1 (cmpi .eq (shapeCast S65536x1 (View.ld x0 r0_1) shapeCasts_S65536x1_S65536x1) (broadcast S65536x1 (BitVec.ofNat 32 e)))
    shapeCasts_S65536x1_S65536x1) broadcasts_S65536x1_S65536x5632

theorem inbS (e : Fin 32) : ∀ a : Fin 2, (![e.val, 0] : Fin 2 → ℕ) a + S1x5632.size a ≤ S32x5632.size a
  | ⟨0, _⟩ => by show e.val + 1 ≤ 32; omega
  | ⟨1, _⟩ => le_rfl
theorem inbW (e : Fin 32) : ∀ a : Fin 3, (![e.val, 0, 0] : Fin 3 → ℕ) a + S1x2816x5632.size a ≤ S32x2816x5632.size a
  | ⟨0, _⟩ => by show e.val + 1 ≤ 32; omega
  | ⟨1, _⟩ => le_rfl
  | ⟨2, _⟩ => le_rfl

/-- Expert `e`'s scales under every row, and the product of the codes with its matrix. -/
def sc (x3 : Vec Ideal S32x5632 .f32) (e : Fin 32) : FVec Ideal S65536x5632 .f32 :=
  broadcastTo S65536x5632 (shapeCast S1x5632 (View.ld x3 (Rect.unit (s := S32x5632) ![e.val, 0] S1x5632.size (inbS e))) shapeCasts_S1x5632_S1x5632) broadcasts_S1x5632_S65536x5632
def pr (q : FVec Ideal S65536x2816 .fp8e4m3) (x2 : Vec Ideal S32x2816x5632 .fp8e4m3) (e : Fin 32) : FVec Ideal S65536x5632 .f32 :=
  matmul (φ₂ := .fp8e4m3) dot_S65536x2816_S2816x5632_S65536x5632_1_0_0_1_n_n none q
    (shapeCast S2816x5632 (View.ld (Val := Elt Ideal) (e' := .fp8e4m3) x2 (Rect.unit (s := S32x2816x5632) ![e.val, 0, 0] S1x2816x5632.size (inbW e))) shapeCasts_S1x2816x5632_S2816x5632)
    (constant S65536x5632 .f32 0x00000000#32)

/-- The choice among the first `n` experts of a family. -/
def chain (x0 : Vec Ideal S65536x1 .i32) (f : Fin 32 → FVec Ideal S65536x5632 .f32) : ℕ → FVec Ideal S65536x5632 .f32
  | 0 => broadcast S65536x5632 (Scalar.ofBits .f32 0x00000000#32)
  | n + 1 => if h : n < 32 then select (mask x0 n) (f ⟨n, h⟩) (chain x0 f n) else chain x0 f n

variable (x0 : Vec Ideal S65536x1 .i32) (x1 : Vec Ideal S65536x2816 .bf16) (x2 : Vec Ideal S32x2816x5632 .fp8e4m3) (x3 : Vec Ideal S32x5632 .f32)

set_option maxRecDepth 65536 in
theorem pay83_eq : k0_pay83 (F := Ideal) x0 x1 x2 x3 = chain x0 (sc x3) 30 := by rfl

set_option maxRecDepth 65536 in
theorem pay85_eq : k0_pay85 (F := Ideal) x0 x1 x2 x3 = chain x0 (pr (k0_pay77 x0 x1 x2 x3) x2) 31 := by rfl

end Cert.ReferenceIdeal.Body
-- ==== Proof.RefScale.lean ====
/-
  The reference's row quantiser read over the reals.
-/
module

public import proofs.«01_k».proof.Proof.Row
public import proofs.«01_k».proof.Proof.Gen.ReferenceIdeal.Value
public import Idealize.ShloMosaic.Lib.Pointwise
public import Idealize.ShloMosaic.Lib.MatmulPlain
public import Idealize.ShloMosaic.Lib.WordCmp
public import Idealize.ShloMosaic.Lib.Pipeline.ValueKit.Tiles

@[expose] public section

set_option maxRecDepth 16384

noncomputable section

namespace Cert.ReferenceIdeal.Body

open Cert.ReferenceIdeal Cert.ReferenceIdeal.Gen
open Idealize.ShloMosaic Idealize.ShloMosaic.TcCoe
open Cert.Scale Cert.Row

/-- The largest magnitude of each row over the largest code. -/
def T (h : FVec Ideal S65536x2816 .f32) : FVec Ideal S65536x1 .f32 :=
  mulf (shapeCast S65536x1 (multiReduction (F := Ideal) .maximumf [1] S65536 (absf h) 0xFF800000#32 reduces_S65536x2816_S65536 (.inl rfl) rfl) shapeCasts_S65536_S65536x1)
    (broadcast S65536x1 (Scalar.ofBits .f32 0x3B124925#32))

/-- The powers above it. -/
def M (t : FVec Ideal S65536x1 .f32) : IVec S65536x256 1 :=
  andi (cmpf .ogt (broadcastTo S65536x256 (k0_pay71 (F := Ideal)) broadcasts_S1x256_S65536x256) (broadcastTo S65536x256 t broadcasts_S65536x1_S65536x256))
    (broadcastTo S65536x256 (cmpi .sgt k0_pay70 (broadcast S1x256 4294967170#32)) broadcasts_S1x256_S65536x256)

theorem pos_inf : Ideal.ofBits .f32 2139095040#32 = ⊤ := by simp [Ideal.ofBits, Ideal.ieee]
theorem neg_inf : Ideal.ofBits .f32 4286578688#32 = ⊥ := by simp [Ideal.ofBits, Ideal.ieee]
theorem and1 : ∀ a b : BitVec 1, IntOp.andi a b = 1#1 ↔ a = 1#1 ∧ b = 1#1 := by decide
theorem or1 : ∀ a b : BitVec 1, IntOp.ori a b = 1#1 ↔ a = 1#1 ∨ b = 1#1 := by decide
theorem ofBool1 (p : Prop) [Decidable p] : BitVec.ofBool (decide p) = 1#1 ↔ p := by by_cases h : p <;> simp [h]
theorem lowCut : ∀ j : Fin 256, IntOp.cmpi CmpIPredicate.sgt (IntOp.subi (BitVec.ofNat 32 j.val) 128#32) 4294967170#32 = 1#1 ↔ 3 ≤ j.val := by decide +kernel
theorem highCut : ∀ j : Fin 256, IntOp.cmpi CmpIPredicate.slt (IntOp.subi (BitVec.ofNat 32 j.val) 128#32) 128#32 = 1#1 := by decide +kernel

theorem pay70_apply (j : Fin 256) : k0_pay70 (ix2 0 j) = IntOp.subi (BitVec.ofNat 32 j.val) 128#32 := by
  unfold k0_pay70
  pointwise

theorem pay71_apply (j : Fin 256) : k0_pay71 (F := Ideal) (ix2 0 j) = power j := by
  unfold k0_pay71
  pointwise
  rw [pay70_apply]
  rfl

theorem col_apply (v : FVec Ideal S65536 .f32) (r : Fin 65536) : shapeCast S65536x1 v shapeCasts_S65536_S65536x1 (ix2 r 0) = v (ix1 r) := by
  pointwise

theorem max_apply (h : FVec Ideal S65536x2816 .f32) (r : Fin 65536) :
    multiReduction (F := Ideal) .maximumf [1] S65536 h 0xFF800000#32 reduces_S65536x2816_S65536 (.inl rfl) rfl (ix1 r)
      = (Finset.univ : Finset (Fin 2816)).fold max (Ideal.ofBits .f32 4286578688#32) fun j => h (ix2 r j) := by
  pointwise

theorem T_apply (h : FVec Ideal S65536x2816 .f32) (r : Fin 65536) : T h (ix2 r 0) = tOf fun j => h (ix2 r j) := by
  unfold T
  rw [mulf_apply, col_apply, max_apply, neg_inf]
  pointwise
  rfl

theorem M_apply (t : FVec Ideal S65536x1 .f32) (r : Fin 65536) (j : Fin 256) : M t (ix2 r j) = 1#1 ↔ (t (ix2 r 0) < power j ∧ 3 ≤ j.val) := by
  unfold M
  pointwise
  rw [pay70_apply, pay71_apply, and1, lowCut, ofBool1]

/-- The scale of a row. -/
theorem scale_apply (t : FVec Ideal S65536x1 .f32) (r : Fin 65536) :
    k0_pay73 (F := Ideal) t k0_pay70 (k0_pay71 (F := Ideal)) (M t) 128#32 (ix2 r 0) = rScale (t (ix2 r 0)) := by
  unfold k0_pay73
  pointwise
  rw [pos_inf]
  have hf : ∀ x : Fin 256, Scalar.select (IntOp.andi (M t (ix2 r x)) (IntOp.cmpi CmpIPredicate.slt (k0_pay70 (ix2 0 x)) 128#32)) (k0_pay71 (F := Ideal) (ix2 0 x)) (⊤ : EReal)
      = if t (ix2 r 0) < power x ∧ 3 ≤ x.val then power x else ⊤ := fun x => by
    rw [pay70_apply, pay71_apply]
    refine if_congr ?_ rfl rfl
    show _ = 1#1 ↔ _
    rw [and1, M_apply, highCut]
    exact and_iff_left rfl
  refine (if_congr (?_ : _ ↔ (t (ix2 r 0) < pw 1 ∨ t (ix2 r 0) = ⊤)) rfl ?_)
  · show _ = 1#1 ↔ _
    rw [or1, ofBool1, ofBool1]
    rfl
  · unfold least
    congr 1
    exact funext hf

/-- The codes of a row. -/
theorem code_apply (h : FVec Ideal S65536x2816 .f32) (t : FVec Ideal S65536x1 .f32) (r : Fin 65536) (j : Fin 2816) :
    k0_pay74 (F := Ideal) h t k0_pay70 (k0_pay71 (F := Ideal)) (M t) 128#32 (ix2 r j) = clip (h (ix2 r j)) (rInv (t (ix2 r 0))) := by
  unfold k0_pay74
  pointwise
  rw [scale_apply]
  rfl

end Cert.ReferenceIdeal.Body
-- ==== Proof.RefHid.lean ====
/-
  The reference's result, row by row: each row is the row function of its expert, where the expert ids are words of naturals below 32.
-/
module

public import proofs.«01_k».proof.Proof.RefPick
public import proofs.«01_k».proof.Proof.RefScale

@[expose] public section

set_option maxRecDepth 16384

noncomputable section

namespace Cert.ReferenceIdeal.Body

open Cert.ReferenceIdeal Cert.ReferenceIdeal.Gen
open Idealize.ShloMosaic Idealize.ShloMosaic.TcCoe
open Cert.Scale Cert.Row

/-- The rows gated, from their scales, products and column scales. -/
def wide (s : FVec Ideal S65536x1 .f32) (p q : FVec Ideal S65536x5632 .f32) : FVec Ideal S65536x5632 .f32 :=
  mulf (mulf p (broadcastTo S65536x5632 s broadcasts_S65536x1_S65536x5632)) q
def H (s : FVec Ideal S65536x1 .f32) (p q : FVec Ideal S65536x5632 .f32) : FVec Ideal S65536x2816 .f32 :=
  mulf (mulf (extractStridedSlice S65536x2816 ![0, 0] (wide s p q) slices_S65536x5632_o0_0_S65536x2816)
      (logistic (extractStridedSlice S65536x2816 ![0, 0] (wide s p q) slices_S65536x5632_o0_0_S65536x2816)))
    (extractStridedSlice S65536x2816 ![0, 2816] (wide s p q) slices_S65536x5632_o0_2816_S65536x2816)

theorem wide_apply (s : FVec Ideal S65536x1 .f32) (p q : FVec Ideal S65536x5632 .f32) (r : Fin 65536) (c : Fin 5632) :
    wide s p q (ix2 r c) = p (ix2 r c) * s (ix2 r 0) * q (ix2 r c) := by
  unfold wide
  pointwise

theorem H_apply (s : FVec Ideal S65536x1 .f32) (p q : FVec Ideal S65536x5632 .f32) (r : Fin 65536) (j : Fin 2816) :
    H s p q (ix2 r j) = gate (p (ix2 r (gcol j)) * s (ix2 r 0) * q (ix2 r (gcol j))) (p (ix2 r (ucol j)) * s (ix2 r 0) * q (ix2 r (ucol j))) := by
  have e1 : ∀ z : FVec Ideal S65536x5632 .f32, extractStridedSlice S65536x2816 ![0, 0] z slices_S65536x5632_o0_0_S65536x2816 (ix2 r j) = z (ix2 r (gcol j)) := fun z => by
    refine congrArg z (funext fun a => ?_)
    match a with
    | ⟨0, _⟩ => exact Fin.ext (Nat.zero_add _)
    | ⟨1, _⟩ => exact Fin.ext (Nat.zero_add _)
  have e2 : ∀ z : FVec Ideal S65536x5632 .f32, extractStridedSlice S65536x2816 ![0, 2816] z slices_S65536x5632_o0_2816_S65536x2816 (ix2 r j) = z (ix2 r (ucol j)) := fun z => by
    refine congrArg z (funext fun a => ?_)
    match a with
    | ⟨0, _⟩ => exact Fin.ext (Nat.zero_add _)
    | ⟨1, _⟩ => rfl
  rw [← wide_apply, ← wide_apply, ← e1 (wide s p q), ← e2 (wide s p q)]
  rfl

variable (x0 : Vec Ideal S65536x1 .i32) (x1 : Vec Ideal S65536x2816 .bf16) (x2 : Vec Ideal S32x2816x5632 .fp8e4m3) (x3 : Vec Ideal S32x5632 .f32)

theorem ld0 : (View.ld x0 r0_1 : Vec Ideal S65536x1 .i32) = x0 := by
  funext k
  refine View.ld_unit_apply_of x0 _ _ _ k k fun a => ?_
  match a with
  | ⟨0, _⟩ => exact (Nat.zero_add _).symm
  | ⟨1, _⟩ => exact (Nat.zero_add _).symm
theorem ld1 : (View.ld x1 r0_0 : Vec Ideal S65536x2816 .bf16) = x1 := by
  funext k
  refine View.ld_unit_apply_of x1 _ _ _ k k fun a => ?_
  match a with
  | ⟨0, _⟩ => exact (Nat.zero_add _).symm
  | ⟨1, _⟩ => exact (Nat.zero_add _).symm

theorem mask_apply (e : ℕ) (r : Fin 65536) (c : Fin 5632) : mask x0 e (ix2 r c) = IntOp.cmpi .eq (x0 (ix2 r 0)) (BitVec.ofNat 32 e) := by
  unfold mask
  rw [ld0]
  pointwise

theorem sc_apply (e : Fin 32) (r : Fin 65536) (c : Fin 5632) : sc x3 e (ix2 r c) = x3 (ix2 e c) := by
  have h : (View.ld x3 (Rect.unit (s := S32x5632) ![e.val, 0] S1x5632.size (inbS e)) : Vec Ideal S1x5632 .f32) (ix2 0 c) = x3 (ix2 e c) :=
    View.ld_unit_apply_of x3 _ _ _ _ _ fun a => match a with
      | ⟨0, _⟩ => rfl
      | ⟨1, _⟩ => (Nat.zero_add _).symm
  unfold sc
  rw [← h]
  generalize (View.ld x3 (Rect.unit (s := S32x5632) ![e.val, 0] S1x5632.size (inbS e)) : Vec Ideal S1x5632 .f32) = z
  pointwise

theorem pr_apply (q : FVec Ideal S65536x2816 .fp8e4m3) (e : Fin 32) (r : Fin 65536) (c : Fin 5632) :
    pr q x2 e (ix2 r c) = ∑ k : Fin 2816, q (ix2 r k) * x2 (ix3 e k c) := by
  have z : (constant S65536x5632 .f32 0x00000000#32 : FVec Ideal S65536x5632 .f32) (ix2 r c) = 0 := by
    show Ideal.ofBits .f32 0x00000000#32 = 0
    simp [Ideal.ofBits, Ideal.ieee]
  refine (Ideal.matmul_plain_apply (M := 65536) (K := 2816) (N := 5632) (φ₁ := .fp8e4m3) (φ₂ := .fp8e4m3) none q _ _ r c).trans ?_
  refine (congrArg (fun a : EReal => a + _) z).trans ((zero_add _).trans ?_)
  refine Finset.sum_congr rfl fun k _ => congrArg (fun b : EReal => q (ix2 r k) * b) ?_
  refine (shapeCast_dropUnit_apply _ _ _ _).trans ?_
  refine View.ld_unit_apply_of x2 _ _ _ _ _ fun a => ?_
  match a with
  | ⟨0, _⟩ => rfl
  | ⟨1, _⟩ => exact (Nat.zero_add _).symm
  | ⟨2, _⟩ => exact (Nat.zero_add _).symm

/-- The choice among the first experts at a row of expert `e`. -/
theorem chain_apply (f : Fin 32 → FVec Ideal S65536x5632 .f32) (r : Fin 65536) (c : Fin 5632) (e : Fin 32) (he : x0 (ix2 r 0) = BitVec.ofNat 32 e.val) (n : ℕ) (hn : n ≤ 32) (hen : e.val < n) :
    chain x0 f n (ix2 r c) = f e (ix2 r c) := by
  induction n with
  | zero => omega
  | succ n ih =>
    have hs : chain x0 f (n + 1) = select (mask x0 n) (f ⟨n, hn⟩) (chain x0 f n) := dif_pos hn
    have hm : mask x0 n (ix2 r c) = 1#1 ↔ e.val = n := by
      rw [mask_apply, he, WordCmp.cmpi_eq_ofNat_eq_one_iff (w := 32) (by omega) (by omega)]
    rw [hs]
    by_cases h : e.val = n
    · have : (⟨n, hn⟩ : Fin 32) = e := Fin.ext h.symm
      rw [this]
      exact if_pos (hm.2 h)
    · exact (if_neg (fun h' => h (hm.1 h'))).trans (ih (by omega) (by omega))

set_option maxRecDepth 65536 in
theorem hid_pre (A B : FVec Ideal S65536x5632 .f32) (s : FVec Ideal S65536x1 .f32) (q : FVec Ideal S65536x2816 .fp8e4m3) :
    k0_pay68 (F := Ideal) s q A (k0_pay84 x0 x1 x2 x3) B (View.ld x3 r0_63) (View.ld x0 r0_1) (View.ld x2 r0_64) (View.ld x3 r0_65)
      = H s (select (mask x0 31) (pr q x2 31) B) (select (mask x0 31) (sc x3 31) (select (mask x0 30) (sc x3 30) A)) := by rfl

set_option maxRecDepth 65536 in
theorem s_eq : k0_pay75 (F := Ideal) x0 x1 x2 x3 = k0_pay73 (F := Ideal) (T (k0_pay1 (View.ld x1 r0_0))) k0_pay70 (k0_pay71 (F := Ideal)) (M (T (k0_pay1 (View.ld x1 r0_0)))) 128#32 := by rfl

set_option maxRecDepth 65536 in
theorem q_eq : k0_pay77 (F := Ideal) x0 x1 x2 x3 = k0_pay74 (F := Ideal) (k0_pay1 (View.ld x1 r0_0)) (T (k0_pay1 (View.ld x1 r0_0))) k0_pay70 (k0_pay71 (F := Ideal)) (M (T (k0_pay1 (View.ld x1 r0_0)))) 128#32 := by rfl

/-- The hidden rows of the whole result. -/
def hidden : FVec Ideal S65536x2816 .f32 :=
  H (k0_pay75 x0 x1 x2 x3) (chain x0 (pr (k0_pay77 x0 x1 x2 x3) x2) 32) (chain x0 (sc x3) 32)

theorem chain_succ (f : Fin 32 → FVec Ideal S65536x5632 .f32) (n : ℕ) (h : n < 32) : chain x0 f (n + 1) = select (mask x0 n) (f ⟨n, h⟩) (chain x0 f n) := dif_pos h

theorem hidden_eq : k0_pay68 (F := Ideal) (k0_pay75 x0 x1 x2 x3) (k0_pay77 x0 x1 x2 x3) (k0_pay83 x0 x1 x2 x3) (k0_pay84 x0 x1 x2 x3) (k0_pay85 x0 x1 x2 x3) (View.ld x3 r0_63) (View.ld x0 r0_1) (View.ld x2 r0_64) (View.ld x3 r0_65)
    = hidden x0 x1 x2 x3 := by
  rw [hid_pre, pay83_eq, pay85_eq]
  unfold hidden
  rw [chain_succ x0 _ 31 (by omega), chain_succ x0 _ 31 (by omega), chain_succ x0 _ 30 (by omega)]
  rfl

theorem pay1_apply (r : Fin 65536) (j : Fin 2816) : k0_pay1 (F := Ideal) (View.ld x1 r0_0) (ix2 r j) = x1 (ix2 r j) := by
  rw [ld1]
  rfl

theorem hidden_apply (r : Fin 65536) (e : Fin 32) (he : x0 (ix2 r 0) = BitVec.ofNat 32 e.val) (j : Fin 2816) :
    hidden x0 x1 x2 x3 (ix2 r j) = hid (fun j => x1 (ix2 r j)) (fun k c => x2 (ix3 e k c)) (fun c => x3 (ix2 e c)) j := by
  have hT : T (k0_pay1 (F := Ideal) (View.ld x1 r0_0)) (ix2 r 0) = tOf fun j => x1 (ix2 r j) := by
    rw [T_apply]
    exact congrArg tOf (funext fun j => pay1_apply x1 r j)
  have hs : k0_pay75 (F := Ideal) x0 x1 x2 x3 (ix2 r 0) = scale fun j => x1 (ix2 r j) := by
    rw [s_eq, scale_apply, hT]
    rfl
  have hq : ∀ k, k0_pay77 (F := Ideal) x0 x1 x2 x3 (ix2 r k) = code (fun j => x1 (ix2 r j)) k := fun k => by
    rw [q_eq, code_apply, hT, pay1_apply]
    rfl
  unfold hidden
  rw [H_apply, hs]
  simp only [chain_apply x0 _ r _ e he 32 le_rfl e.isLt, pr_apply, sc_apply, hq]
  rfl

set_option maxRecDepth 65536 in
theorem out4_eq : out0_4 (F := Ideal) x0 x1 x2 x3 = k0_pay74 (F := Ideal) (hidden x0 x1 x2 x3) (T (hidden x0 x1 x2 x3)) k0_pay70 (k0_pay71 (F := Ideal)) (M (T (hidden x0 x1 x2 x3))) 128#32 := by
  rw [← hidden_eq]
  refine (View.canon_unit_zero (funext fun a => ?_) _ _).trans ?_
  · match a with
    | ⟨0, _⟩ => rfl
    | ⟨1, _⟩ => rfl
  · rfl

set_option maxRecDepth 65536 in
theorem out5_eq : out0_5 (F := Ideal) x0 x1 x2 x3 = k0_pay73 (F := Ideal) (T (hidden x0 x1 x2 x3)) k0_pay70 (k0_pay71 (F := Ideal)) (M (T (hidden x0 x1 x2 x3))) 128#32 := by
  rw [← hidden_eq]
  refine (View.canon_unit_zero (funext fun a => ?_) _ _).trans ?_
  · match a with
    | ⟨0, _⟩ => rfl
    | ⟨1, _⟩ => rfl
  · rfl

/-- The reference's codes at a row of expert `e`. -/
theorem out4_apply (r : Fin 65536) (e : Fin 32) (he : x0 (ix2 r 0) = BitVec.ofNat 32 e.val) (j : Fin 2816) :
    out0_4 (F := Ideal) x0 x1 x2 x3 (ix2 r j) = y (fun j => x1 (ix2 r j)) (fun k c => x2 (ix3 e k c)) (fun c => x3 (ix2 e c)) j := by
  rw [out4_eq, code_apply, T_apply]
  simp only [hidden_apply x0 x1 x2 x3 r e he]
  rfl

/-- The reference's scale at a row of expert `e`. -/
theorem out5_apply (r : Fin 65536) (e : Fin 32) (he : x0 (ix2 r 0) = BitVec.ofNat 32 e.val) :
    out0_5 (F := Ideal) x0 x1 x2 x3 (ix2 r 0) = ys (fun j => x1 (ix2 r j)) (fun k c => x2 (ix3 e k c)) (fun c => x3 (ix2 e c)) := by
  rw [out5_eq, scale_apply, T_apply]
  simp only [hidden_apply x0 x1 x2 x3 r e he]
  rfl

end Cert.ReferenceIdeal.Body
-- ==== Proof.RefIds.lean ====
/-
  The experts of the rows, as the reference computes them on 32-bit words.
-/
module

public import proofs.«01_k».proof.Proof.PlanWords
public import proofs.«01_k».proof.Proof.Gen.ReferenceIdeal.Value
public import Idealize.ShloMosaic.Lib.StableHlo.RunRead

@[expose] public section

set_option maxRecDepth 16384

noncomputable section

namespace Cert.ReferenceIdeal.Ids

open Cert.ReferenceIdeal Cert.ReferenceIdeal.Gen
open Idealize.ShloMosaic Idealize.ShloMosaic.TcCoe Idealize.ShloMosaic.ValueIdx Idealize.ShloMosaic.WordCmp Idealize.ShloMosaic.Tactic
open Idealize.ShloMosaic.Routing (bc0 bcCol bcRows bcCols reduce_count iota1_ap)
open Cert.Plan

/-- The number of groups that end at or before each row. -/
def count (ends : IVec S32 32) : IVec S65536 32 := Host.reduce IntOp.addi (extui 32 (cmpi .sge
    (broadcastInDim S65536x32 ![0, 1] bcast_S65536x1_S65536x32_0_1 (broadcastInDim S65536x1 ![0] bcast_S65536_S65536x1_0 (iotaInDim S65536 32 0)))
    (broadcastInDim S65536x32 ![0, 1] bcast_S1x32_S65536x32_0_1 (broadcastInDim S1x32 ![1] bcast_S32_S1x32_1 ends))) (by decide)) (constantI S_ 32 0#32) reducesTo_S65536x32_S65536_d1 h_S_

theorem count_ap (ends : IVec S32 32) (c : ℕ → ℕ) (hs : P c 32 = 65536) (he : ∀ e : Fin 32, ends (ix1 e) = BitVec.ofNat 32 (P c (e.val + 1))) (R : Fin 65536) :
    count ends (ix1 R) = BitVec.ofNat 32 (exOf c R.val) := by
  unfold count exOf
  refine reduce_count (by decide) _ (by decide) reducesTo_S65536x32_S65536_d1 h_S_ R (fun e => P c (e + 1) ≤ R.val) fun q => ?_
  have h4 := P_mono c (show q.val + 1 ≤ 32 from q.isLt)
  have hR := R.isLt
  rw [cmpi_at, bcRows, bcCols, iota1_ap, he, cmpi_sge_ofNat_eq_one_iff (w := 32) (by omega) (by omega)]

variable {F : FTy → Type} [FloatOps F] (W : Valuation τ sig (Elt F))

theorem s0 : StableHlo.after hostOps0 W (Proc.devRef .tc main_v0) = PlanWords.cum (W (Proc.devRef .tc main_arg1)) := by
  after_reads_simp
  simp only [StableHlo.TRef.ofBuf_toBuf, StableHlo.TRef.ofBuf, StableHlo.TRef.toBuf, cast_eq]
  unfold PlanWords.cum
  rfl
theorem s1 : StableHlo.after hostOps0_1 W (Proc.devRef .tc main_v9) = broadcastInDim S65536x1 ![0] bcast_S65536_S65536x1_0 (count (W (Proc.devRef .tc main_v0))) := by
  after_reads_simp
  rfl

/-- The word of a row's expert. -/
theorem ids (m : (ℓ : Loc nD τ sig) → Buf (Elt F) ℓ) (d : Dev nD) (c : ℕ → ℕ) (hs : P c 32 = 65536)
    (hc : ∀ e : Fin 32, (m ((d : Thread nD τ).loc main_arg1) : IVec S32 32) (ix1 e) = BitVec.ofNat 32 (c e.val)) (R : Fin 65536) :
    (V m d main_v9 : IVec S65536x1 32) (ix2 R 0) = BitVec.ofNat 32 (exOf c R.val) := by
  have h : V m d main_v9 = broadcastInDim S65536x1 ![0] bcast_S65536_S65536x1_0 (count (PlanWords.cum (m ((d : Thread nD τ).loc main_arg1)))) := by
    show StableHlo.after (List.flatten [hostOps0, hostOps0_1]) (fun b => m (d, b)) (Proc.devRef .tc main_v9) = _
    rw [List.flatten_cons, List.flatten_cons, List.flatten_nil, List.append_nil, StableHlo.after_append, s1, s0]
  rw [h, bcCol]
  exact count_ap _ c hs (fun e => PlanWords.cum_ap _ c hc e) R

end Cert.ReferenceIdeal.Ids
-- ==== Proof.RefEnd.lean ====
/-
  The reference's result arrays, over the reals.
-/
module

public import proofs.«01_k».proof.Proof.RefHid
public import proofs.«01_k».proof.Proof.RefIds

@[expose] public section

set_option maxRecDepth 16384

noncomputable section

namespace Cert.ReferenceIdeal.Body

open Cert.ReferenceIdeal Cert.ReferenceIdeal.Gen
open Idealize.ShloMosaic Idealize.ShloMosaic.TcCoe

/-! ## Each array is one block -/

theorem emb0 (t : Fin cfg0.N) (y : S65536x1.Idx) : ((cfg0.win 0).blk t).view.emb y = y := by
  refine funext fun (a : Fin 2) => Fin.ext ?_
  refine (Pipeline.Window.rect_emb_val (cfg0.win 0) t y a rfl).trans ?_
  match a with
  | ⟨0, _⟩ => exact (show 0 * 65536 + (y 0).val = (y 0).val by rw [Nat.zero_mul, Nat.zero_add])
  | ⟨1, _⟩ => exact (show 0 * 1 + (y 1).val = (y 1).val by rw [Nat.zero_mul, Nat.zero_add])
theorem emb1 (t : Fin cfg0.N) (y : S65536x2816.Idx) : ((cfg0.win 1).blk t).view.emb y = y := by
  refine funext fun (a : Fin 2) => Fin.ext ?_
  refine (Pipeline.Window.rect_emb_val (cfg0.win 1) t y a rfl).trans ?_
  match a with
  | ⟨0, _⟩ => exact (show 0 * 65536 + (y 0).val = (y 0).val by rw [Nat.zero_mul, Nat.zero_add])
  | ⟨1, _⟩ => exact (show 0 * 2816 + (y 1).val = (y 1).val by rw [Nat.zero_mul, Nat.zero_add])
theorem emb2 (t : Fin cfg0.N) (y : S32x2816x5632.Idx) : ((cfg0.win 2).blk t).view.emb y = y := by
  refine funext fun (a : Fin 3) => Fin.ext ?_
  refine (Pipeline.Window.rect_emb_val (cfg0.win 2) t y a rfl).trans ?_
  match a with
  | ⟨0, _⟩ => exact (show 0 * 32 + (y 0).val = (y 0).val by rw [Nat.zero_mul, Nat.zero_add])
  | ⟨1, _⟩ => exact (show 0 * 2816 + (y 1).val = (y 1).val by rw [Nat.zero_mul, Nat.zero_add])
  | ⟨2, _⟩ => exact (show 0 * 5632 + (y 2).val = (y 2).val by rw [Nat.zero_mul, Nat.zero_add])
theorem emb3 (t : Fin cfg0.N) (y : S32x5632.Idx) : ((cfg0.win 3).blk t).view.emb y = y := by
  refine funext fun (a : Fin 2) => Fin.ext ?_
  refine (Pipeline.Window.rect_emb_val (cfg0.win 3) t y a rfl).trans ?_
  match a with
  | ⟨0, _⟩ => exact (show 0 * 32 + (y 0).val = (y 0).val by rw [Nat.zero_mul, Nat.zero_add])
  | ⟨1, _⟩ => exact (show 0 * 5632 + (y 1).val = (y 1).val by rw [Nat.zero_mul, Nat.zero_add])
theorem emb4 (t : Fin cfg0.N) (y : S65536x2816.Idx) : ((cfg0.win 4).blk t).view.emb y = y := by
  refine funext fun (a : Fin 2) => Fin.ext ?_
  refine (Pipeline.Window.rect_emb_val (cfg0.win 4) t y a rfl).trans ?_
  match a with
  | ⟨0, _⟩ => exact (show 0 * 65536 + (y 0).val = (y 0).val by rw [Nat.zero_mul, Nat.zero_add])
  | ⟨1, _⟩ => exact (show 0 * 2816 + (y 1).val = (y 1).val by rw [Nat.zero_mul, Nat.zero_add])
theorem emb5 (t : Fin cfg0.N) (y : S65536x1.Idx) : ((cfg0.win 5).blk t).view.emb y = y := by
  refine funext fun (a : Fin 2) => Fin.ext ?_
  refine (Pipeline.Window.rect_emb_val (cfg0.win 5) t y a rfl).trans ?_
  match a with
  | ⟨0, _⟩ => exact (show 0 * 65536 + (y 0).val = (y 0).val by rw [Nat.zero_mul, Nat.zero_add])
  | ⟨1, _⟩ => exact (show 0 * 1 + (y 1).val = (y 1).val by rw [Nat.zero_mul, Nat.zero_add])

theorem flush4 : ∀ t : Fin cfg0.N, (cfg0.win 4).flush t = true := (by decide +kernel : ∀ t : Fin grid0.N, win0_4.flush t = true)
theorem flush5 : ∀ t : Fin cfg0.N, (cfg0.win 5).flush t = true := (by decide +kernel : ∀ t : Fin grid0.N, win0_5.flush t = true)

variable (m : (ℓ : Loc nD τ sig) → Buf (Elt Ideal) ℓ) (c : Dev nD)

theorem iblk0 (t : Fin cfg0.N) : (iblk m c 0 t : Vec Ideal S65536x1 .i32) = (V m c main_v9 : Vec Ideal S65536x1 .i32) := by
  refine funext fun y => ?_
  refine Eq.trans (b := (V m c main_v9 : Vec Ideal S65536x1 .i32) (((cfg0.win 0).blk t).view.emb y)) rfl ?_
  exact congrArg (V m c main_v9 : Vec Ideal S65536x1 .i32) (emb0 t y)
theorem iblk1 (t : Fin cfg0.N) : (iblk m c 1 t : Vec Ideal S65536x2816 .bf16) = (V m c main_arg0 : Vec Ideal S65536x2816 .bf16) := by
  refine funext fun y => ?_
  refine Eq.trans (b := (V m c main_arg0 : Vec Ideal S65536x2816 .bf16) (((cfg0.win 1).blk t).view.emb y)) rfl ?_
  exact congrArg (V m c main_arg0 : Vec Ideal S65536x2816 .bf16) (emb1 t y)
theorem iblk2 (t : Fin cfg0.N) : (iblk m c 2 t : Vec Ideal S32x2816x5632 .fp8e4m3) = (V m c main_arg2 : Vec Ideal S32x2816x5632 .fp8e4m3) := by
  refine funext fun y => ?_
  refine Eq.trans (b := (V m c main_arg2 : Vec Ideal S32x2816x5632 .fp8e4m3) (((cfg0.win 2).blk t).view.emb y)) rfl ?_
  exact congrArg (V m c main_arg2 : Vec Ideal S32x2816x5632 .fp8e4m3) (emb2 t y)
theorem iblk3 (t : Fin cfg0.N) : (iblk m c 3 t : Vec Ideal S32x5632 .f32) = (V m c main_arg3 : Vec Ideal S32x5632 .f32) := by
  refine funext fun y => ?_
  refine Eq.trans (b := (V m c main_arg3 : Vec Ideal S32x5632 .f32) (((cfg0.win 3).blk t).view.emb y)) rfl ?_
  exact congrArg (V m c main_arg3 : Vec Ideal S32x5632 .f32) (emb3 t y)

/-- The codes after the run. -/
theorem arr4 (f : Fin 65536 → Fin 32) (hf : ∀ R : Fin 65536, (V m c main_v9 : Vec Ideal S65536x1 .i32) (ix2 R 0) = BitVec.ofNat 32 (f R).val) (Rw : Fin 65536) (j : Fin 2816) :
    ((dats m 0 c).arrAt 4 cfg0.N : Vec Ideal S65536x2816 .fp8e4m3) (ix2 Rw j) = Row.y (fun j => (m ((c : Thread nD τ).loc main_arg0) : Vec Ideal S65536x2816 .bf16) (ix2 Rw j)) (fun k l => (m ((c : Thread nD τ).loc main_arg2) : Vec Ideal S32x2816x5632 .fp8e4m3) (ix3 (f Rw) k l)) (fun l => (m ((c : Thread nD τ).loc main_arg3) : Vec Ideal S32x5632 .f32) (ix2 (f Rw) l)) j := by
  refine (dats m 0 c).arrAt_forall_of_cover 4 (fun (i : S65536x2816.Idx) (v : EReal) => ∀ (Rw : Fin 65536) (j : Fin 2816), i = ix2 Rw j → v = Row.y (fun j => (m ((c : Thread nD τ).loc main_arg0) : Vec Ideal S65536x2816 .bf16) (ix2 Rw j)) (fun k l => (m ((c : Thread nD τ).loc main_arg2) : Vec Ideal S32x2816x5632 .fp8e4m3) (ix3 (f Rw) k l)) (fun l => (m ((c : Thread nD τ).loc main_arg3) : Vec Ideal S32x5632 .f32) (ix2 (f Rw) l)) j)
    (fun t _ (y : S65536x2816.Idx) Rw j hi => ?_) (fun (i : S65536x2816.Idx) => ?_) (ix2 Rw j) Rw j rfl
  · have hy : y = ix2 Rw j := (emb4 t y).symm.trans hi
    subst hy
    refine Eq.trans (b := (out0_4 (iblk m c 0 t) (iblk m c 1 t) (iblk m c 2 t) (iblk m c 3 t) : Vec Ideal S65536x2816 .fp8e4m3) (ix2 Rw j)) ?_ ?_
    · exact congrFun (Value.flushed4 m c t) (ix2 Rw j)
    · rw [iblk0, iblk1, iblk2, iblk3, V_main_arg0, V_main_arg2, V_main_arg3]
      exact out4_apply _ _ _ _ Rw (f Rw) (hf Rw) j
  · exact ⟨(0 : Fin 1), flush4 (0 : Fin 1), Eq.subst (motive := fun k => k ∈ ((cfg0.win 4).blk (0 : Fin 1)).view.set) (emb4 (0 : Fin 1) i) (View.emb_mem_set ((cfg0.win 4).blk (0 : Fin 1)).view i)⟩

/-- The scales after the run. -/
theorem arr5 (f : Fin 65536 → Fin 32) (hf : ∀ R : Fin 65536, (V m c main_v9 : Vec Ideal S65536x1 .i32) (ix2 R 0) = BitVec.ofNat 32 (f R).val) (Rw : Fin 65536) (j : Fin 1) :
    ((dats m 0 c).arrAt 5 cfg0.N : Vec Ideal S65536x1 .f32) (ix2 Rw j) = Row.ys (fun j => (m ((c : Thread nD τ).loc main_arg0) : Vec Ideal S65536x2816 .bf16) (ix2 Rw j)) (fun k l => (m ((c : Thread nD τ).loc main_arg2) : Vec Ideal S32x2816x5632 .fp8e4m3) (ix3 (f Rw) k l)) (fun l => (m ((c : Thread nD τ).loc main_arg3) : Vec Ideal S32x5632 .f32) (ix2 (f Rw) l)) := by
  refine (dats m 0 c).arrAt_forall_of_cover 5 (fun (i : S65536x1.Idx) (v : EReal) => ∀ (Rw : Fin 65536) (j : Fin 1), i = ix2 Rw j → v = Row.ys (fun j => (m ((c : Thread nD τ).loc main_arg0) : Vec Ideal S65536x2816 .bf16) (ix2 Rw j)) (fun k l => (m ((c : Thread nD τ).loc main_arg2) : Vec Ideal S32x2816x5632 .fp8e4m3) (ix3 (f Rw) k l)) (fun l => (m ((c : Thread nD τ).loc main_arg3) : Vec Ideal S32x5632 .f32) (ix2 (f Rw) l)))
    (fun t _ (y : S65536x1.Idx) Rw j hi => ?_) (fun (i : S65536x1.Idx) => ?_) (ix2 Rw j) Rw j rfl
  · have hy : y = ix2 Rw j := (emb5 t y).symm.trans hi
    subst hy
    refine Eq.trans (b := (out0_5 (iblk m c 0 t) (iblk m c 1 t) (iblk m c 2 t) (iblk m c 3 t) : Vec Ideal S65536x1 .f32) (ix2 Rw j)) ?_ ?_
    · exact congrFun (Value.flushed5 m c t) (ix2 Rw j)
    · rw [iblk0, iblk1, iblk2, iblk3, V_main_arg0, V_main_arg2, V_main_arg3]
      obtain rfl : j = 0 := Subsingleton.elim _ _
      exact out5_apply _ _ _ _ Rw (f Rw) (hf Rw)
  · exact ⟨(0 : Fin 1), flush5 (0 : Fin 1), Eq.subst (motive := fun k => k ∈ ((cfg0.win 5).blk (0 : Fin 1)).view.set) (emb5 (0 : Fin 1) i) (View.emb_mem_set ((cfg0.win 5).blk (0 : Fin 1)).view i)⟩

end Cert.ReferenceIdeal.Body
-- ==== Proof.Equal.lean ====
/-
  The kernel and the reference give equal results over the reals: both choose a row's expert by how many groups end at or before it, and both
  compute the row by the same formula.
-/
module

public import proofs.«01_k».proof.Defs
public import proofs.«01_k».proof.Proof.KEnd
public import proofs.«01_k».proof.Proof.RefEnd

@[expose] public section

set_option maxRecDepth 16384

noncomputable section

namespace Cert.Equal

open Idealize.ShloMosaic Idealize.ShloMosaic.TcCoe Idealize.SL.Sem

variable (m : (ℓ : Loc KernelIdeal.nD KernelIdeal.τ KernelIdeal.sig) → Buf (Elt Ideal) ℓ) (hp : KernelIdeal.Run.Pre m)
  (m' : (ℓ : Loc ReferenceIdeal.nD ReferenceIdeal.τ ReferenceIdeal.sig) → Buf (Elt Ideal) ℓ) (ρ' : Dev ReferenceIdeal.nD → PrngReg)

/-- The two launches hold the same arguments. -/
def Same : Prop := ∀ c : Dev KernelIdeal.nD,
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)

variable (hs : Same m m')

include hs in
/-- The reference's word for a row's expert. -/
theorem expert_word (R : Fin 65536) :
    (ReferenceIdeal.Gen.V m' 0 ReferenceIdeal.main_v9 : Vec Ideal ReferenceIdeal.S65536x1 .i32) (ix2 R 0) = BitVec.ofNat 32 (KernelIdeal.Run.expert m hp R).val :=
  ReferenceIdeal.Ids.ids m' 0 (KernelIdeal.Run.cn m) (KernelIdeal.Run.cn_sum m hp)
    (fun e => (congrFun (hs 0).2.1 (ix1 e)).trans (KernelIdeal.Run.cn_word m e)) R

include hs in
/-- A formula of a row has one value on the two launches. -/
theorem rows_eq {J : Type} (g : (Fin 2816 → EReal) → (Fin 2816 → Fin 5632 → EReal) → (Fin 5632 → EReal) → J → EReal) (R : Fin 65536) (j : J) :
    g (fun j => (m' (0, ReferenceIdeal.main_arg0) : Vec Ideal ReferenceIdeal.S65536x2816 .bf16) (ix2 R j))
        (fun k l => (m' (0, ReferenceIdeal.main_arg2) : Vec Ideal ReferenceIdeal.S32x2816x5632 .fp8e4m3) (ix3 (KernelIdeal.Run.expert m hp R) k l))
        (fun l => (m' (0, ReferenceIdeal.main_arg3) : Vec Ideal ReferenceIdeal.S32x5632 .f32) (ix2 (KernelIdeal.Run.expert m hp R) l)) j
      = g (fun j => KernelIdeal.Run.xA m (ix2 R j)) (fun k l => KernelIdeal.Run.wA m (ix3 (KernelIdeal.Run.expert m hp R) k l))
        (fun l => KernelIdeal.Run.sA m (ix2 (KernelIdeal.Run.expert m hp R) l)) j := by
  have h0 : (m' (0, ReferenceIdeal.main_arg0) : Vec Ideal ReferenceIdeal.S65536x2816 .bf16) = KernelIdeal.Run.xA m := (hs 0).1
  have h2 : (m' (0, ReferenceIdeal.main_arg2) : Vec Ideal ReferenceIdeal.S32x2816x5632 .fp8e4m3) = KernelIdeal.Run.wA m := (hs 0).2.2.1
  have h3 : (m' (0, ReferenceIdeal.main_arg3) : Vec Ideal ReferenceIdeal.S32x5632 .f32) = KernelIdeal.Run.sA m := (hs 0).2.2.2
  rw [h0, h2, h3]

include hs in
theorem codes : ((ReferenceIdeal.Gen.dats m' 0 0).arrAt 4 ReferenceIdeal.cfg0.N : Vec Ideal ReferenceIdeal.S65536x2816 .fp8e4m3) = KernelIdeal.Run.outY m hp := by
  refine funext fun (i : ReferenceIdeal.S65536x2816.Idx) => ?_
  rw [ValueIdx.eq_ix2 i]
  refine (ReferenceIdeal.Body.arr4 m' 0 (KernelIdeal.Run.expert m hp) (expert_word m hp m' hs) (i 0) (i 1)).trans ?_
  exact rows_eq m hp m' hs (fun x w s j => Row.y x w s j) (i 0) (i 1)

include hs in
theorem scales : ((ReferenceIdeal.Gen.dats m' 0 0).arrAt 5 ReferenceIdeal.cfg0.N : Vec Ideal ReferenceIdeal.S65536x1 .f32) = KernelIdeal.Run.outS m hp := by
  refine funext fun (i : ReferenceIdeal.S65536x1.Idx) => ?_
  rw [ValueIdx.eq_ix2 i]
  refine (ReferenceIdeal.Body.arr5 m' 0 (KernelIdeal.Run.expert m hp) (expert_word m hp m' hs) (i 0) (i 1)).trans ?_
  exact rows_eq m hp m' hs (fun x w s _ => Row.ys x w s) (i 0) (i 1)

include hs in
/-- The reference leaves the kernel's results in its result arrays. -/
theorem reference_values :
    θ_run (ReferenceIdeal.defs (F := Ideal)) (onTc (τ := ReferenceIdeal.τ) (ReferenceIdeal.main (F := Ideal))) ⟨m', fun _ => 0, ρ'⟩ (fun r => ∀ c : Dev ReferenceIdeal.nD,
      r.2.mem ((c.tc : Thread ReferenceIdeal.nD ReferenceIdeal.τ).loc ReferenceIdeal.main_v10_0) = KernelIdeal.Run.outY m hp
      ∧ r.2.mem ((c.tc : Thread ReferenceIdeal.nD ReferenceIdeal.τ).loc ReferenceIdeal.main_v10_1) = KernelIdeal.Run.outS m hp
      ∧ r.2.mem ((c.tc : Thread ReferenceIdeal.nD ReferenceIdeal.τ).loc ReferenceIdeal.main_arg0) = m' ((c.tc : Thread ReferenceIdeal.nD ReferenceIdeal.τ).loc ReferenceIdeal.main_arg0)
      ∧ r.2.mem ((c.tc : Thread ReferenceIdeal.nD ReferenceIdeal.τ).loc ReferenceIdeal.main_arg1) = m' ((c.tc : Thread ReferenceIdeal.nD ReferenceIdeal.τ).loc ReferenceIdeal.main_arg1)
      ∧ r.2.mem ((c.tc : Thread ReferenceIdeal.nD ReferenceIdeal.τ).loc ReferenceIdeal.main_arg2) = m' ((c.tc : Thread ReferenceIdeal.nD ReferenceIdeal.τ).loc ReferenceIdeal.main_arg2)
      ∧ r.2.mem ((c.tc : Thread ReferenceIdeal.nD ReferenceIdeal.τ).loc ReferenceIdeal.main_arg3) = m' ((c.tc : Thread ReferenceIdeal.nD ReferenceIdeal.τ).loc ReferenceIdeal.main_arg3)) := by
  refine θ_run_mono (ReferenceIdeal.Value.run_blocks m' ρ') fun r h c => ?_
  obtain rfl : c = 0 := Subsingleton.elim c 0
  obtain ⟨h4, h5, ha⟩ := h 0
  exact ⟨h4.trans (codes m hp m' hs), h5.trans (scales m hp m' hs), ha⟩

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_groups
public import proofs.«01_k».proof.Proof.Quiet
public import proofs.«01_k».proof.Proof.IdealQuiet
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_groups.Gen.facts,
  fun m ρ hp => Cert.Kernel.Run.quiet m ρ hp, fun m ρ hp => Cert.KernelIdeal.Run.quiet m ρ hp, fun m ρ _ => Cert.ReferenceIdeal.Gen.frame m ρ,
  fun m ρ _ => Cert.ReferenceIdeal.Gen.frame m ρ, trivial,
  fun m ρ m' ρ' hp hs => ⟨fun _ => Cert.KernelIdeal.Run.outY m hp, fun _ => Cert.KernelIdeal.Run.outS m hp,
    Cert.KernelIdeal.Run.values m ρ hp, Cert.Equal.reference_values m hp m' ρ' hs⟩⟩

end Cert.Proof

end
